-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x205 : Shape := ⟨3, ![16, 2048, 205]⟩
abbrev S63x5 : Shape := ⟨2, ![63, 5]⟩
abbrev S130x6 : Shape := ⟨2, ![130, 6]⟩
abbrev S12x4 : Shape := ⟨2, ![12, 4]⟩
abbrev S5x15 : Shape := ⟨2, ![5, 15]⟩
abbrev S5x48 : Shape := ⟨2, ![5, 48]⟩
abbrev S6x132 : Shape := ⟨2, ![6, 132]⟩
abbrev S4x10 : Shape := ⟨2, ![4, 10]⟩
abbrev S16x2048x63 : Shape := ⟨3, ![16, 2048, 63]⟩
abbrev S_ : Shape := ⟨0, ![]⟩

class Facts : Prop where
  slices_S16x2048x205_S16x2048x63_0_0_12 : S16x2048x205.Slices ![0, 0, 12] S16x2048x63
  bcast_S_S16x2048x63 : S_.BroadcastsInDim S16x2048x63 (![] : Fin 0 → Fin S16x2048x63.rank)
  reducesTo_S16x2048x63_S_d0_1_2 : S16x2048x63.ReducesTo [0, 1, 2] S_
  h_S_ : 0 < S_.numel
  bcast_S_S63x5 : S_.BroadcastsInDim S63x5 (![] : Fin 0 → Fin S63x5.rank)
  reducesTo_S63x5_S_d0_1 : S63x5.ReducesTo [0, 1] S_

variable [Facts]

def fn {F : FTy → Type} [FloatOps F] (main_arg0 : FVec F S16x2048x205 .f32) (main_arg1 : FVec F S63x5 .f32) (main_arg2 : FVec F S63x5 .f32) (main_arg3 : FVec F S130x6 .f32) (main_arg4 : FVec F S12x4 .f32) (main_arg5 : FVec F S5x15 .f32) (main_arg6 : FVec F S5x48 .f32) (main_arg7 : FVec F S6x132 .f32) (main_arg8 : FVec F S4x10 .f32) : IVec S_ 1 :=
  let main_v0 : FVec F S16x2048x63 .f32 := (extractStridedSlice S16x2048x63 ![0, 0, 12] · slices_S16x2048x205_S16x2048x63_0_0_12) main_arg0
  let main_v1 : FVec F S16x2048x63 .f32 := Host.absf main_v0
  let main_cst : FVec F S_ .f32 := constant S_ .f32 0x7F800000#32
  let main_v2 : FVec F S16x2048x63 .f32 := broadcastInDim S16x2048x63 ![] bcast_S_S16x2048x63 main_cst
  let main_v3 : IVec S16x2048x63 1 := cmpf .olt main_v1 main_v2
  let main_c : IVec S_ 1 := constantI S_ 1 1#1
  let main_v4 : IVec S_ 1 := (fun x v => Host.reduce IntOp.andi x v reducesTo_S16x2048x63_S_d0_1_2 h_S_) main_v3 main_c
  let main_v5 : FVec F S63x5 .f32 := Host.absf main_arg1
  let main_cst_0 : FVec F S_ .f32 := constant S_ .f32 0x7F800000#32
  let main_v6 : FVec F S63x5 .f32 := broadcastInDim S63x5 ![] bcast_S_S63x5 main_cst_0
  let main_v7 : IVec S63x5 1 := cmpf .olt main_v5 main_v6
  let main_c_1 : IVec S_ 1 := constantI S_ 1 1#1
  let main_v8 : IVec S_ 1 := (fun x v => Host.reduce IntOp.andi x v reducesTo_S63x5_S_d0_1 h_S_) main_v7 main_c_1
  let main_v9 : IVec S_ 1 := andi main_v4 main_v8
  let main_v10 : FVec F S63x5 .f32 := Host.absf main_arg2
  let main_cst_2 : FVec F S_ .f32 := constant S_ .f32 0x7F800000#32
  let main_v11 : FVec F S63x5 .f32 := broadcastInDim S63x5 ![] bcast_S_S63x5 main_cst_2
  let main_v12 : IVec S63x5 1 := cmpf .olt main_v10 main_v11
  let main_c_3 : IVec S_ 1 := constantI S_ 1 1#1
  let main_v13 : IVec S_ 1 := (fun x v => Host.reduce IntOp.andi x v reducesTo_S63x5_S_d0_1 h_S_) main_v12 main_c_3
  let main_v14 : IVec S_ 1 := andi main_v9 main_v13
  main_v14
-- ==== Kernel.lean ====
abbrev S16x2048x205 : Shape := ⟨3, ![16, 2048, 205]⟩
abbrev S63x5 : Shape := ⟨2, ![63, 5]⟩
abbrev S130x6 : Shape := ⟨2, ![130, 6]⟩
abbrev S12x4 : Shape := ⟨2, ![12, 4]⟩
abbrev S5x15 : Shape := ⟨2, ![5, 15]⟩
abbrev S5x48 : Shape := ⟨2, ![5, 48]⟩
abbrev S6x132 : Shape := ⟨2, ![6, 132]⟩
abbrev S4x10 : Shape := ⟨2, ![4, 10]⟩
abbrev S20x1 : Shape := ⟨2, ![20, 1]⟩
abbrev S4x20 : Shape := ⟨2, ![4, 20]⟩
abbrev S4x1 : Shape := ⟨2, ![4, 1]⟩
abbrev S205x16x2048 : Shape := ⟨3, ![205, 16, 2048]⟩
abbrev S3280x2048 : Shape := ⟨2, ![3280, 2048]⟩
abbrev S5x63 : Shape := ⟨2, ![5, 63]⟩
abbrev S6x130 : Shape := ⟨2, ![6, 130]⟩
abbrev S4x12 : Shape := ⟨2, ![4, 12]⟩
abbrev S64x2048 : Shape := ⟨2, ![64, 2048]⟩
abbrev S3280x512 : Shape := ⟨2, ![3280, 512]⟩
abbrev S64x512 : Shape := ⟨2, ![64, 512]⟩
abbrev S320x3280 : Shape := ⟨2, ![320, 3280]⟩
abbrev S3280x320 : Shape := ⟨2, ![3280, 320]⟩
abbrev S64x320 : Shape := ⟨2, ![64, 320]⟩
abbrev S320x1 : Shape := ⟨2, ![320, 1]⟩
abbrev S64x1 : Shape := ⟨2, ![64, 1]⟩
abbrev S5x12 : Shape := ⟨2, ![5, 12]⟩
abbrev S5x130 : Shape := ⟨2, ![5, 130]⟩
abbrev S5x205 : Shape := ⟨2, ![5, 205]⟩
abbrev S6x75 : Shape := ⟨2, ![6, 75]⟩
abbrev S6x205 : Shape := ⟨2, ![6, 205]⟩
abbrev S4x193 : Shape := ⟨2, ![4, 193]⟩
abbrev S4x205 : Shape := ⟨2, ![4, 205]⟩
abbrev S20x205 : Shape := ⟨2, ![20, 205]⟩
abbrev S5x60 : Shape := ⟨2, ![5, 60]⟩
abbrev S5x145 : Shape := ⟨2, ![5, 145]⟩
abbrev S6x9 : Shape := ⟨2, ![6, 9]⟩
abbrev S6x3 : Shape := ⟨2, ![6, 3]⟩
abbrev S6x63 : Shape := ⟨2, ![6, 63]⟩
abbrev S6x1 : Shape := ⟨2, ![6, 1]⟩
abbrev S4x9 : Shape := ⟨2, ![4, 9]⟩
abbrev S4x129 : Shape := ⟨2, ![4, 129]⟩
abbrev S4x66 : Shape := ⟨2, ![4, 66]⟩
abbrev S3280x205 : Shape := ⟨2, ![3280, 205]⟩
abbrev S20x3280 : Shape := ⟨2, ![20, 3280]⟩
abbrev S320x20 : Shape := ⟨2, ![320, 20]⟩
abbrev S3280x20 : Shape := ⟨2, ![3280, 20]⟩
abbrev S4x320 : Shape := ⟨2, ![4, 320]⟩
abbrev S64x4 : Shape := ⟨2, ![64, 4]⟩
abbrev S320x512 : Shape := ⟨2, ![320, 512]⟩
abbrev S4x16x2048 : Shape := ⟨3, ![4, 16, 2048]⟩

abbrev nBuf : Space → Nat
  | .hbm => 23
  | .vmem => 22
  | .smem => 0
  | _ => 0

abbrev bufTy : (tb : Table) → Fin (tcTables nBuf tb) → BufTy
  | .hbm, ⟨0, _⟩ => ⟨S16x2048x205, .f32⟩
  | .hbm, ⟨1, _⟩ => ⟨S63x5, .f32⟩
  | .hbm, ⟨2, _⟩ => ⟨S63x5, .f32⟩
  | .hbm, ⟨3, _⟩ => ⟨S130x6, .f32⟩
  | .hbm, ⟨4, _⟩ => ⟨S12x4, .f32⟩
  | .hbm, ⟨5, _⟩ => ⟨S5x15, .f32⟩
  | .hbm, ⟨6, _⟩ => ⟨S5x48, .f32⟩
  | .hbm, ⟨7, _⟩ => ⟨S6x132, .f32⟩
  | .hbm, ⟨8, _⟩ => ⟨S4x10, .f32⟩
  | .hbm, ⟨9, _⟩ => ⟨S20x1, .f32⟩
  | .hbm, ⟨10, _⟩ => ⟨S4x20, .f32⟩
  | .hbm, ⟨11, _⟩ => ⟨S4x1, .f32⟩
  | .hbm, ⟨12, _⟩ => ⟨S205x16x2048, .f32⟩
  | .hbm, ⟨13, _⟩ => ⟨S3280x2048, .f32⟩
  | .hbm, ⟨14, _⟩ => ⟨S5x63, .f32⟩
  | .hbm, ⟨15, _⟩ => ⟨S5x63, .f32⟩
  | .hbm, ⟨16, _⟩ => ⟨S6x130, .f32⟩
  | .hbm, ⟨17, _⟩ => ⟨S4x12, .f32⟩
  | .hbm, ⟨18, _⟩ => ⟨S3280x2048, .f32⟩
  | .hbm, ⟨19, _⟩ => ⟨S64x2048, .i32⟩
  | .hbm, ⟨20, _⟩ => ⟨S205x16x2048, .f32⟩
  | .hbm, ⟨21, _⟩ => ⟨S16x2048x205, .f32⟩
  | .hbm, ⟨22, _⟩ => ⟨S4x16x2048, .i32⟩
  | .local _ .vmem, ⟨0, _⟩ => ⟨S3280x512, .f32⟩
  | .local _ .vmem, ⟨1, _⟩ => ⟨S3280x512, .f32⟩
  | .local _ .vmem, ⟨2, _⟩ => ⟨S5x63, .f32⟩
  | .local _ .vmem, ⟨3, _⟩ => ⟨S5x63, .f32⟩
  | .local _ .vmem, ⟨4, _⟩ => ⟨S6x130, .f32⟩
  | .local _ .vmem, ⟨5, _⟩ => ⟨S4x12, .f32⟩
  | .local _ .vmem, ⟨6, _⟩ => ⟨S5x15, .f32⟩
  | .local _ .vmem, ⟨7, _⟩ => ⟨S5x48, .f32⟩
  | .local _ .vmem, ⟨8, _⟩ => ⟨S6x132, .f32⟩
  | .local _ .vmem, ⟨9, _⟩ => ⟨S4x10, .f32⟩
  | .local _ .vmem, ⟨10, _⟩ => ⟨S20x1, .f32⟩
  | .local _ .vmem, ⟨11, _⟩ => ⟨S4x20, .f32⟩
  | .local _ .vmem, ⟨12, _⟩ => ⟨S4x1, .f32⟩
  | .local _ .vmem, ⟨13, _⟩ => ⟨S3280x512, .f32⟩
  | .local _ .vmem, ⟨14, _⟩ => ⟨S3280x512, .f32⟩
  | .local _ .vmem, ⟨15, _⟩ => ⟨S64x512, .i32⟩
  | .local _ .vmem, ⟨16, _⟩ => ⟨S64x512, .i32⟩
  | .local _ .vmem, ⟨17, _⟩ => ⟨S320x3280, .f32⟩
  | .local _ .vmem, ⟨18, _⟩ => ⟨S3280x320, .f32⟩
  | .local _ .vmem, ⟨19, _⟩ => ⟨S64x320, .f32⟩
  | .local _ .vmem, ⟨20, _⟩ => ⟨S320x1, .f32⟩
  | .local _ .vmem, ⟨21, _⟩ => ⟨S64x1, .f32⟩
  | _, _ => ⟨S16x2048x205, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x63 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x130 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x132 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3280x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x2048x205 : Shape := ⟨3, ![16, 2048, 205]⟩
abbrev S63x5 : Shape := ⟨2, ![63, 5]⟩
abbrev S130x6 : Shape := ⟨2, ![130, 6]⟩
abbrev S12x4 : Shape := ⟨2, ![12, 4]⟩
abbrev S5x15 : Shape := ⟨2, ![5, 15]⟩
abbrev S5x48 : Shape := ⟨2, ![5, 48]⟩
abbrev S6x132 : Shape := ⟨2, ![6, 132]⟩
abbrev S4x10 : Shape := ⟨2, ![4, 10]⟩
abbrev S5 : Shape := ⟨1, ![5]⟩
abbrev S6 : Shape := ⟨1, ![6]⟩
abbrev S4 : Shape := ⟨1, ![4]⟩
abbrev S16x2048x12 : Shape := ⟨3, ![16, 2048, 12]⟩
abbrev S16x2048x63 : Shape := ⟨3, ![16, 2048, 63]⟩
abbrev S16x2048x130 : Shape := ⟨3, ![16, 2048, 130]⟩
abbrev S16x2048x5 : Shape := ⟨3, ![16, 2048, 5]⟩
abbrev S_ : Shape := ⟨0, ![]⟩
abbrev S1x1x5 : Shape := ⟨3, ![1, 1, 5]⟩
abbrev S16x2048 : Shape := ⟨2, ![16, 2048]⟩
abbrev S16x2048x6 : Shape := ⟨3, ![16, 2048, 6]⟩
abbrev S1x1x6 : Shape := ⟨3, ![1, 1, 6]⟩
abbrev S16x2048x4 : Shape := ⟨3, ![16, 2048, 4]⟩
abbrev S1x1x4 : Shape := ⟨3, ![1, 1, 4]⟩
abbrev S1x16x2048 : Shape := ⟨3, ![1, 16, 2048]⟩
abbrev S4x16x2048 : Shape := ⟨3, ![4, 16, 2048]⟩
abbrev S16x2048x15 : Shape := ⟨3, ![16, 2048, 15]⟩
abbrev S16x2048x48 : Shape := ⟨3, ![16, 2048, 48]⟩
abbrev S16x2048x132 : Shape := ⟨3, ![16, 2048, 132]⟩
abbrev S16x2048x10 : Shape := ⟨3, ![16, 2048, 10]⟩
abbrev S16x2048x9 : Shape := ⟨3, ![16, 2048, 9]⟩
abbrev S16x2048x3 : Shape := ⟨3, ![16, 2048, 3]⟩
abbrev S16x2048x1 : Shape := ⟨3, ![16, 2048, 1]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x205, .f32⟩
  | .hbm, ⟨1, _⟩ => ⟨S63x5, .f32⟩
  | .hbm, ⟨2, _⟩ => ⟨S63x5, .f32⟩
  | .hbm, ⟨3, _⟩ => ⟨S130x6, .f32⟩
  | .hbm, ⟨4, _⟩ => ⟨S12x4, .f32⟩
  | .hbm, ⟨5, _⟩ => ⟨S5x15, .f32⟩
  | .hbm, ⟨6, _⟩ => ⟨S5x48, .f32⟩
  | .hbm, ⟨7, _⟩ => ⟨S6x132, .f32⟩
  | .hbm, ⟨8, _⟩ => ⟨S4x10, .f32⟩
  | .hbm, ⟨9, _⟩ => ⟨S5, .i32⟩
  | .hbm, ⟨10, _⟩ => ⟨S5, .i32⟩
  | .hbm, ⟨11, _⟩ => ⟨S6, .i32⟩
  | .hbm, ⟨12, _⟩ => ⟨S4, .i32⟩
  | .hbm, ⟨13, _⟩ => ⟨S16x2048x12, .f32⟩
  | .hbm, ⟨14, _⟩ => ⟨S16x2048x63, .f32⟩
  | .hbm, ⟨15, _⟩ => ⟨S16x2048x63, .f32⟩
  | .hbm, ⟨16, _⟩ => ⟨S16x2048x130, .f32⟩
  | .hbm, ⟨17, _⟩ => ⟨S16x2048x5, .f32⟩
  | .hbm, ⟨18, _⟩ => ⟨S16x2048x5, .f32⟩
  | .hbm, ⟨19, _⟩ => ⟨S_, .f32⟩
  | .hbm, ⟨20, _⟩ => ⟨S16x2048x5, .f32⟩
  | .hbm, ⟨21, _⟩ => ⟨S16x2048x5, .f32⟩
  | .hbm, ⟨22, _⟩ => ⟨S16x2048x5, .f32⟩
  | .hbm, ⟨23, _⟩ => ⟨S16x2048x5, .f32⟩
  | .hbm, ⟨24, _⟩ => ⟨S16x2048x5, .f32⟩
  | .hbm, ⟨25, _⟩ => ⟨S_, .f32⟩
  | .hbm, ⟨26, _⟩ => ⟨S16x2048x5, .f32⟩
  | .hbm, ⟨27, _⟩ => ⟨S16x2048x5, .f32⟩
  | .hbm, ⟨28, _⟩ => ⟨S16x2048x5, .i32⟩
  | .hbm, ⟨29, _⟩ => ⟨S1x1x5, .i32⟩
  | .hbm, ⟨30, _⟩ => ⟨S16x2048x5, .i32⟩
  | .hbm, ⟨31, _⟩ => ⟨S16x2048x5, .i32⟩
  | .hbm, ⟨32, _⟩ => ⟨S_, .i32⟩
  | .hbm, ⟨33, _⟩ => ⟨S16x2048, .i32⟩
  | .hbm, ⟨34, _⟩ => ⟨S16x2048x5, .f32⟩
  | .hbm, ⟨35, _⟩ => ⟨S16x2048x5, .f32⟩
  | .hbm, ⟨36, _⟩ => ⟨S_, .f32⟩
  | .hbm, ⟨37, _⟩ => ⟨S16x2048x5, .f32⟩
  | .hbm, ⟨38, _⟩ => ⟨S16x2048x5, .f32⟩
  | .hbm, ⟨39, _⟩ => ⟨S16x2048x5, .f32⟩
  | .hbm, ⟨40, _⟩ => ⟨S16x2048x5, .f32⟩
  | .hbm, ⟨41, _⟩ => ⟨S16x2048x5, .f32⟩
  | .hbm, ⟨42, _⟩ => ⟨S_, .f32⟩
  | .hbm, ⟨43, _⟩ => ⟨S16x2048x5, .f32⟩
  | .hbm, ⟨44, _⟩ => ⟨S16x2048x5, .f32⟩
  | .hbm, ⟨45, _⟩ => ⟨S16x2048x5, .i32⟩
  | .hbm, ⟨46, _⟩ => ⟨S1x1x5, .i32⟩
  | .hbm, ⟨47, _⟩ => ⟨S16x2048x5, .i32⟩
  | .hbm, ⟨48, _⟩ => ⟨S16x2048x5, .i32⟩
  | .hbm, ⟨49, _⟩ => ⟨S_, .i32⟩
  | .hbm, ⟨50, _⟩ => ⟨S16x2048, .i32⟩
  | .hbm, ⟨51, _⟩ => ⟨S16x2048x6, .f32⟩
  | .hbm, ⟨52, _⟩ => ⟨S16x2048x6, .f32⟩
  | .hbm, ⟨53, _⟩ => ⟨S_, .f32⟩
  | .hbm, ⟨54, _⟩ => ⟨S16x2048x6, .f32⟩
  | .hbm, ⟨55, _⟩ => ⟨S16x2048x6, .f32⟩
  | .hbm, ⟨56, _⟩ => ⟨S16x2048x6, .f32⟩
  | .hbm, ⟨57, _⟩ => ⟨S16x2048x6, .f32⟩
  | .hbm, ⟨58, _⟩ => ⟨S16x2048x6, .f32⟩
  | .hbm, ⟨59, _⟩ => ⟨S_, .f32⟩
  | .hbm, ⟨60, _⟩ => ⟨S16x2048x6, .f32⟩
  | .hbm, ⟨61, _⟩ => ⟨S16x2048x6, .f32⟩
  | .hbm, ⟨62, _⟩ => ⟨S16x2048x6, .i32⟩
  | .hbm, ⟨63, _⟩ => ⟨S1x1x6, .i32⟩
  | .hbm, ⟨64, _⟩ => ⟨S16x2048x6, .i32⟩
  | .hbm, ⟨65, _⟩ => ⟨S16x2048x6, .i32⟩
  | .hbm, ⟨66, _⟩ => ⟨S_, .i32⟩
  | .hbm, ⟨67, _⟩ => ⟨S16x2048, .i32⟩
  | .hbm, ⟨68, _⟩ => ⟨S16x2048x4, .f32⟩
  | .hbm, ⟨69, _⟩ => ⟨S16x2048x4, .f32⟩
  | .hbm, ⟨70, _⟩ => ⟨S_, .f32⟩
  | .hbm, ⟨71, _⟩ => ⟨S16x2048x4, .f32⟩
  | .hbm, ⟨72, _⟩ => ⟨S16x2048x4, .f32⟩
  | .hbm, ⟨73, _⟩ => ⟨S16x2048x4, .f32⟩
  | .hbm, ⟨74, _⟩ => ⟨S16x2048x4, .f32⟩
  | .hbm, ⟨75, _⟩ => ⟨S16x2048x4, .f32⟩
  | .hbm, ⟨76, _⟩ => ⟨S_, .f32⟩
  | .hbm, ⟨77, _⟩ => ⟨S16x2048x4, .f32⟩
  | .hbm, ⟨78, _⟩ => ⟨S16x2048x4, .f32⟩
  | .hbm, ⟨79, _⟩ => ⟨S16x2048x4, .i32⟩
  | .hbm, ⟨80, _⟩ => ⟨S1x1x4, .i32⟩
  | .hbm, ⟨81, _⟩ => ⟨S16x2048x4, .i32⟩
  | .hbm, ⟨82, _⟩ => ⟨S16x2048x4, .i32⟩
  | .hbm, ⟨83, _⟩ => ⟨S_, .i32⟩
  | .hbm, ⟨84, _⟩ => ⟨S16x2048, .i32⟩
  | .hbm, ⟨85, _⟩ => ⟨S_, .i32⟩
  | .hbm, ⟨86, _⟩ => ⟨S16x2048, .i32⟩
  | .hbm, ⟨87, _⟩ => ⟨S16x2048, .i32⟩
  | .hbm, ⟨88, _⟩ => ⟨S_, .i32⟩
  | .hbm, ⟨89, _⟩ => ⟨S16x2048, .i32⟩
  | .hbm, ⟨90, _⟩ => ⟨S16x2048, .i32⟩
  | .hbm, ⟨91, _⟩ => ⟨S_, .i32⟩
  | .hbm, ⟨92, _⟩ => ⟨S16x2048, .i32⟩
  | .hbm, ⟨93, _⟩ => ⟨S16x2048, .i32⟩
  | .hbm, ⟨94, _⟩ => ⟨S_, .i32⟩
  | .hbm, ⟨95, _⟩ => ⟨S16x2048, .i32⟩
  | .hbm, ⟨96, _⟩ => ⟨S16x2048, .i32⟩
  | .hbm, ⟨97, _⟩ => ⟨S1x16x2048, .i32⟩
  | .hbm, ⟨98, _⟩ => ⟨S1x16x2048, .i32⟩
  | .hbm, ⟨99, _⟩ => ⟨S1x16x2048, .i32⟩
  | .hbm, ⟨100, _⟩ => ⟨S1x16x2048, .i32⟩
  | .hbm, ⟨101, _⟩ => ⟨S4x16x2048, .i32⟩
  | .hbm, ⟨102, _⟩ => ⟨S16x2048x15, .f32⟩
  | .hbm, ⟨103, _⟩ => ⟨S16x2048x48, .f32⟩
  | .hbm, ⟨104, _⟩ => ⟨S16x2048x63, .f32⟩
  | .hbm, ⟨105, _⟩ => ⟨S16x2048x132, .f32⟩
  | .hbm, ⟨106, _⟩ => ⟨S16x2048x10, .f32⟩
  | .hbm, ⟨107, _⟩ => ⟨S16x2048x9, .f32⟩
  | .hbm, ⟨108, _⟩ => ⟨S16x2048x3, .f32⟩
  | .hbm, ⟨109, _⟩ => ⟨S16x2048x63, .f32⟩
  | .hbm, ⟨110, _⟩ => ⟨S16x2048x1, .f32⟩
  | .hbm, ⟨111, _⟩ => ⟨S16x2048x3, .f32⟩
  | .hbm, ⟨112, _⟩ => ⟨S16x2048x63, .f32⟩
  | .hbm, ⟨113, _⟩ => ⟨S16x2048x205, .f32⟩
  | _, _ => ⟨S16x2048x205, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_c_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Proof.Pre.lean ====
module

public import proofs.«01_k».proof.Pre_finite
public import Idealize.ShloMosaic.Lib.Pointwise
public import Idealize.ShloMosaic.Lib.ReduceAll

@[expose] public section

set_option maxRecDepth 16384

noncomputable section

namespace Cert.Pre_finite

open Idealize.ShloMosaic

/-- The shape facts of the precondition. -/
instance facts : Facts where
  slices_S16x2048x205_S16x2048x63_0_0_12 := by decide
  bcast_S_S16x2048x63 := by decide
  reducesTo_S16x2048x63_S_d0_1_2 := by decide
  h_S_ := by decide
  bcast_S_S63x5 := by decide
  reducesTo_S63x5_S_d0_1 := by decide

open Facts

/-- The float literal of infinity is the top of the extended reals. -/
theorem top_lit : Ideal.ofBits .f32 0x7F800000#32 = ⊤ := by simp [Ideal.ofBits, Ideal.ieee]

/-- A value of absolute value below infinity is real. -/
theorem real_of_abs (x : EReal) (h : BitVec.ofBool (decide (FloatOps.absf (F := Ideal) (φ := .f32) x < (⊤ : EReal))) = 1#1) : ∃ r : ℝ, x = (r : EReal) := by
  have h' : max x (-x) < (⊤ : EReal) := by
    by_contra hc
    have e : decide (FloatOps.absf (F := Ideal) (φ := .f32) x < (⊤ : EReal)) = false := decide_eq_false hc
    rw [e] at h
    exact absurd h (by decide)
  induction x using EReal.rec with
  | bot => exact absurd h' (by simp)
  | top => exact absurd h' (by simp)
  | coe r => exact ⟨r, rfl⟩

/-- A scalar has one index. -/
instance : Subsingleton S_.Idx := ⟨fun a b => funext fun i => i.elim0⟩

variable (x : FVec Ideal S16x2048x205 .f32) (W1 W2 : FVec Ideal S63x5 .f32) (W3 : FVec Ideal S130x6 .f32) (W4 : FVec Ideal S12x4 .f32)
  (W5 : FVec Ideal S5x15 .f32) (W6 : FVec Ideal S5x48 .f32) (W7 : FVec Ideal S6x132 .f32) (W8 : FVec Ideal S4x10 .f32)

/-- The precondition, read: the expression features and both encoder weights on them are real. -/
theorem finite_read (h : fn x W1 W2 W3 W4 W5 W6 W7 W8 = fun _ => 1#1) :
    (∀ (b : Fin 16) (t : Fin 2048) (f : Fin 63), ∃ r : ℝ, x (ix3 b t (⟨12 + f.val, by omega⟩ : Fin 205)) = (r : EReal))
    ∧ (∀ (f : Fin 63) (i : Fin 5), ∃ r : ℝ, W1 (ix2 f i) = (r : EReal)) ∧ (∀ (f : Fin 63) (i : Fin 5), ∃ r : ℝ, W2 (ix2 f i) = (r : EReal)) := by
  have h0 := congrFun h (Shape.Idx.first (by decide))
  obtain ⟨h01, hw2⟩ := IntOp.andi_eq_one.1 h0
  obtain ⟨hx, hw1⟩ := IntOp.andi_eq_one.1 h01
  refine ⟨fun b t f => ?_, fun f i => ?_, fun f i => ?_⟩
  · have e := Host.reduce_andi_all _ _ _ _ _ hx (ix3 b t f)
    revert e
    pointwise []
    rw [top_lit]
    exact real_of_abs _
  · have e := Host.reduce_andi_all _ _ _ _ _ hw1 (ix2 f i)
    revert e
    pointwise []
    rw [top_lit]
    exact real_of_abs _
  · have e := Host.reduce_andi_all _ _ _ _ _ hw2 (ix2 f i)
    revert e
    pointwise []
    rw [top_lit]
    exact real_of_abs _

end Cert.Pre_finite

end
-- ==== Proof.KBody.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KBody

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The encoder matrix the first grid point assembles, from the four encoder blocks. -/
def WA (x1 x2 : Vec F S5x63 .f32) (x3 : Vec F S6x130 .f32) (x4 : Vec F S4x12 .f32) : Vec F S320x3280 .f32 :=
  k0_pay14 (k0_pay12 (k0_pay5 x1 x2 x3 x4)) (iota .tc S320x20 32 [0] iota_S320x20_d0_w32) 16#32 k0_pay13 0#32

/-- The decoder matrix the first grid point assembles, from the four decoder blocks. -/
def WO (x5 : Vec F S5x15 .f32) (x6 : Vec F S5x48 .f32) (x7 : Vec F S6x132 .f32) (x8 : Vec F S4x10 .f32) : Vec F S3280x320 .f32 :=
  k0_pay21 (k0_pay17 (k0_pay11 x7 x8 (k0_pay6 x5) (k0_pay7 x6) k0_pay8 (k0_pay9 x7) k0_pay10)
    (iota .tc S3280x205 32 [0] iota_S3280x205_d0_w32) 16#32 k0_pay15 k0_pay16) k0_pay18 k0_pay19 k0_pay20 0#32

/-- The matrix of powers the first grid point assembles. -/
def PA (x10 : Vec F S4x20 .f32) : Vec F S64x320 .f32 :=
  k0_pay26 (k0_pay25 x10 (iota .tc S320x20 32 [0] iota_S320x20_d0_w32) k0_pay22 k0_pay23 k0_pay24)
    (iota .tc S64x320 32 [0] iota_S64x320_d0_w32)

/-- The column of half widths the first grid point assembles. -/
def HALF (x9 : Vec F S20x1 .f32) : Vec F S320x1 .f32 :=
  k0_pay28 k0_pay27 x9 (constant S320x1 .f32 0x00000000#32)

/-- The column of code constants the first grid point assembles. -/
def CA (x11 : Vec F S4x1 .f32) : Vec F S64x1 .f32 := k0_pay1 (k0_pay29 x11)

/-- What the first grid point leaves: both output blocks and the five assembled arrays. -/
theorem outs_A (c : Dev nD) (t : Fin cfg0.N) (h0 : t.val % 4 = 0) :
    outsAt0 m c t.val t.isLt =
      (k0_pay3 (iblk m c 0 t) (WA (iblk m c 1 t) (iblk m c 2 t) (iblk m c 3 t) (iblk m c 4 t)) (HALF (iblk m c 9 t))
          (WO (iblk m c 5 t) (iblk m c 6 t) (iblk m c 7 t) (iblk m c 8 t)),
       k0_pay4 (iblk m c 0 t) (WA (iblk m c 1 t) (iblk m c 2 t) (iblk m c 3 t) (iblk m c 4 t)) (HALF (iblk m c 9 t))
          (PA (iblk m c 10 t)) (CA (iblk m c 11 t)),
       WA (iblk m c 1 t) (iblk m c 2 t) (iblk m c 3 t) (iblk m c 4 t),
       WO (iblk m c 5 t) (iblk m c 6 t) (iblk m c 7 t) (iblk m c 8 t),
       PA (iblk m c 10 t), HALF (iblk m c 9 t), CA (iblk m c 11 t)) := by
  rw [outsAt0_A m c t h0]
  refine Prod.ext ?_ (Prod.ext ?_ (Prod.ext ?_ (Prod.ext ?_ (Prod.ext ?_ (Prod.ext ?_ ?_)))))
  all_goals dsimp only
  all_goals frame_out
  all_goals rfl

/-- What a later grid point leaves: the output blocks over the arrays it found, which it keeps. -/
theorem outs_B (c : Dev nD) (t : Fin cfg0.N) (h0 : ¬t.val % 4 = 0) (p : Vec F S3280x512 .f32 × Vec F S64x512 .i32 × Vec F S320x3280 .f32 × Vec F S3280x320 .f32 × Vec F S64x320 .f32 × Vec F S320x1 .f32 × Vec F S64x1 .f32)
    (hp : p = outsAt0 m c (t.val - 1) (Nat.lt_of_le_of_lt (Nat.sub_le _ _) t.isLt)) :
    outsAt0 m c t.val t.isLt =
      (k0_pay3 (iblk m c 0 t) p.2.2.1 p.2.2.2.2.2.1 p.2.2.2.1,
       k0_pay4 (iblk m c 0 t) p.2.2.1 p.2.2.2.2.2.1 p.2.2.2.2.1 p.2.2.2.2.2.2, p.2.2) := by
  rw [outsAt0_B m c t h0, ← hp]
  refine Prod.ext ?_ (Prod.ext ?_ (Prod.ext ?_ (Prod.ext ?_ (Prod.ext ?_ (Prod.ext ?_ ?_)))))
  all_goals dsimp only
  · frame_out
    simp only [read_unread_whole]
  · frame_out
    simp only [read_unread_whole]
  all_goals rfl

end Cert.KBody

end
-- ==== Proof.KArr.lean ====
module

public import proofs.«01_k».proof.Proof.KBody
public import Idealize.ShloMosaic.Lib.Pointwise

@[expose] public section

set_option maxRecDepth 16384

noncomputable section

namespace Cert.KArr

open Cert.KernelIdeal Cert.KernelIdeal.Gen Idealize.ShloMosaic Idealize.ShloMosaic.TcCoe Idealize.SL.Sem
open Idealize.ShloMosaic.Pipeline (Dat)
open Cert.KBody

variable (m : (ℓ : Loc nD τ sig) → Buf (Elt Ideal) ℓ)

/-! ## A weight's block is its array at every grid point -/

/-- Window 1's block is the first one at every grid point. -/
theorem idx1 : ∀ t : Fin grid0.N, win0_1.index t = ![0, 0] := by decide +kernel

/-- Window 1 stages its whole array. -/
theorem iblk1 (c : Dev nD) (t : Fin cfg0.N) : iblk m c 1 t = V m c main_v2 := by
  funext i
  blk_ext [iblk, V, idx1 t]

/-- Window 2's block is the first one at every grid point. -/
theorem idx2 : ∀ t : Fin grid0.N, win0_2.index t = ![0, 0] := by decide +kernel

/-- Window 2 stages its whole array. -/
theorem iblk2 (c : Dev nD) (t : Fin cfg0.N) : iblk m c 2 t = V m c main_v3 := by
  funext i
  blk_ext [iblk, V, idx2 t]

/-- Window 3's block is the first one at every grid point. -/
theorem idx3 : ∀ t : Fin grid0.N, win0_3.index t = ![0, 0] := by decide +kernel

/-- Window 3 stages its whole array. -/
theorem iblk3 (c : Dev nD) (t : Fin cfg0.N) : iblk m c 3 t = V m c main_v4 := by
  funext i
  blk_ext [iblk, V, idx3 t]

/-- Window 4's block is the first one at every grid point. -/
theorem idx4 : ∀ t : Fin grid0.N, win0_4.index t = ![0, 0] := by decide +kernel

/-- Window 4 stages its whole array. -/
theorem iblk4 (c : Dev nD) (t : Fin cfg0.N) : iblk m c 4 t = V m c main_v5 := by
  funext i
  blk_ext [iblk, V, idx4 t]

/-- Window 5's block is the first one at every grid point. -/
theorem idx5 : ∀ t : Fin grid0.N, win0_5.index t = ![0, 0] := by decide +kernel

/-- Window 5 stages its whole array. -/
theorem iblk5 (c : Dev nD) (t : Fin cfg0.N) : iblk m c 5 t = V m c main_arg5 := by
  funext i
  blk_ext [iblk, V, idx5 t]

/-- Window 6's block is the first one at every grid point. -/
theorem idx6 : ∀ t : Fin grid0.N, win0_6.index t = ![0, 0] := by decide +kernel

/-- Window 6 stages its whole array. -/
theorem iblk6 (c : Dev nD) (t : Fin cfg0.N) : iblk m c 6 t = V m c main_arg6 := by
  funext i
  blk_ext [iblk, V, idx6 t]

/-- Window 7's block is the first one at every grid point. -/
theorem idx7 : ∀ t : Fin grid0.N, win0_7.index t = ![0, 0] := by decide +kernel

/-- Window 7 stages its whole array. -/
theorem iblk7 (c : Dev nD) (t : Fin cfg0.N) : iblk m c 7 t = V m c main_arg7 := by
  funext i
  blk_ext [iblk, V, idx7 t]

/-- Window 8's block is the first one at every grid point. -/
theorem idx8 : ∀ t : Fin grid0.N, win0_8.index t = ![0, 0] := by decide +kernel

/-- Window 8 stages its whole array. -/
theorem iblk8 (c : Dev nD) (t : Fin cfg0.N) : iblk m c 8 t = V m c main_arg8 := by
  funext i
  blk_ext [iblk, V, idx8 t]

/-- Window 9's block is the first one at every grid point. -/
theorem idx9 : ∀ t : Fin grid0.N, win0_9.index t = ![0, 0] := by decide +kernel

/-- Window 9 stages its whole array. -/
theorem iblk9 (c : Dev nD) (t : Fin cfg0.N) : iblk m c 9 t = V m c main_cst := by
  funext i
  blk_ext [iblk, V, idx9 t]

/-- Window 10's block is the first one at every grid point. -/
theorem idx10 : ∀ t : Fin grid0.N, win0_10.index t = ![0, 0] := by decide +kernel

/-- Window 10 stages its whole array. -/
theorem iblk10 (c : Dev nD) (t : Fin cfg0.N) : iblk m c 10 t = V m c main_cst_0 := by
  funext i
  blk_ext [iblk, V, idx10 t]

/-- Window 11's block is the first one at every grid point. -/
theorem idx11 : ∀ t : Fin grid0.N, win0_11.index t = ![0, 0] := by decide +kernel

/-- Window 11 stages its whole array. -/
theorem iblk11 (c : Dev nD) (t : Fin cfg0.N) : iblk m c 11 t = V m c main_cst_1 := by
  funext i
  blk_ext [iblk, V, idx11 t]

/-! ## What the kernel holds after each grid point -/

/-- The encoder matrix of a run. -/
abbrev wa (c : Dev nD) : Vec Ideal S320x3280 .f32 := WA (V m c main_v2) (V m c main_v3) (V m c main_v4) (V m c main_v5)
/-- The decoder matrix of a run. -/
abbrev wo (c : Dev nD) : Vec Ideal S3280x320 .f32 := WO (V m c main_arg5) (V m c main_arg6) (V m c main_arg7) (V m c main_arg8)
/-- The matrix of powers of a run. -/
abbrev pa (c : Dev nD) : Vec Ideal S64x320 .f32 := PA (V m c main_cst_0)
/-- The half widths of a run. -/
abbrev hw (c : Dev nD) : Vec Ideal S320x1 .f32 := HALF (V m c main_cst)
/-- The code constants of a run. -/
abbrev ca (c : Dev nD) : Vec Ideal S64x1 .f32 := CA (V m c main_cst_1)

/-- At every grid point: both output blocks from the point's block of the input, and the five arrays assembled at the
    first point, which every later point keeps. -/
theorem outs_eq (c : Dev nD) : ∀ (n : ℕ) (hn : n < cfg0.N), outsAt0 m c n hn =
      (k0_pay3 (iblk m c 0 ⟨n, hn⟩) (wa m c) (hw m c) (wo m c),
       k0_pay4 (iblk m c 0 ⟨n, hn⟩) (wa m c) (hw m c) (pa m c) (ca m c), wa m c, wo m c, pa m c, hw m c, ca m c)
  | 0, hn => by
    have h := outs_A m c ⟨0, hn⟩ rfl
    simp only [iblk1, iblk2, iblk3, iblk4, iblk5, iblk6, iblk7, iblk8, iblk9, iblk10, iblk11] at h
    exact h
  | n + 1, hn => by
    have hN : n + 1 < 4 := lt_of_lt_of_eq hn (show cfg0.N = 4 from N_0)
    have h := outs_B m c ⟨n + 1, hn⟩ (by show ¬ (n + 1) % 4 = 0; omega) _ (outs_eq c n (Nat.lt_of_succ_lt hn)).symm
    exact h

/-! ## The output arrays after the run -/

/-- The quantised latent of row `r` at time `t`, over an assembled encoder matrix and the transposed input. -/
def qmat (wa : Vec Ideal S320x3280 .f32) (h : Vec Ideal S320x1 .f32) (X : Vec Ideal S3280x2048 .f32) (r : Fin 320) (t : Fin 2048) : EReal :=
  Ideal.liftRound Ideal.roundHalfEven (h (ix2 r 0) * Ideal.tanh (∑ k, wa (ix2 r k) * X (ix2 k t)))

/-- The input's block at grid point `t` is the `t`-th along time. -/
theorem idx0 : ∀ t : Fin grid0.N, win0_0.index t = ![0, t.val] := by decide +kernel
/-- The first output's block at grid point `t` is the `t`-th along time. -/
theorem idx12 : ∀ t : Fin grid0.N, win0_12.index t = ![0, t.val] := by decide +kernel
/-- The second output's block at grid point `t` is the `t`-th along time. -/
theorem idx13 : ∀ t : Fin grid0.N, win0_13.index t = ![0, t.val] := by decide +kernel

/-- The input's block at point `t` is columns `512 t … 512 t + 511` of the array. -/
theorem iblk0 (c : Dev nD) (t : Fin cfg0.N) (k : Fin 3280) (j : Fin 512) (T : Fin 2048) (hT : T.val = t.val * 512 + j.val) :
    iblk m c 0 t (ix2 k j) = V m c main_v1 (ix2 k T) := by
  blk_ext [iblk, V, idx0 t]

/-- One block's quantised latents at column `j` are the whole array's at time `T = 512 t + j`. -/
theorem pay2_eq (c : Dev nD) (t : Fin cfg0.N) (r : Fin 320) (j : Fin 512) (T : Fin 2048) (hT : T.val = t.val * 512 + j.val) :
    k0_pay2 (iblk m c 0 t) (wa m c) (hw m c) (ix2 r j) = qmat (wa m c) (hw m c) (V m c main_v1) r T := by
  pointwise [k0_pay2, qmat]
  simp only [iblk0 m c t _ j T hT]

/-- The first output array: the decoder matrix against the quantised latents. -/
def G12 (c : Dev nD) : Vec Ideal S3280x2048 .f32 := fun i =>
  ∑ r, wo m c (ix2 (i 0) r) * qmat (wa m c) (hw m c) (V m c main_v1) r (i 1)

/-- The second output array: the powers against the quantised latents, plus the constant, converted to a word. -/
def G13 (c : Dev nD) : Vec Ideal S64x2048 .i32 := fun i =>
  FloatOps.fptosi (F := Ideal) (φ := .f32) 32 (∑ r, pa m c (ix2 (i 0) r) * qmat (wa m c) (hw m c) (V m c main_v1) r (i 1) + ca m c (ix2 (i 0) 0))

/-- One block's decoded output at column `j` is the first output array at time `T = 512 t + j`. -/
theorem pay3_eq (c : Dev nD) (t : Fin cfg0.N) (r : Fin 3280) (j : Fin 512) (T : Fin 2048) (hT : T.val = t.val * 512 + j.val) :
    k0_pay3 (iblk m c 0 t) (wa m c) (hw m c) (wo m c) (ix2 r j) = G12 m c (ix2 r T) := by
  pointwise [k0_pay3, G12]
  refine Finset.sum_congr rfl fun k _ => ?_
  rw [pay2_eq m c t k j T hT]

/-- One block's codes at column `j` are the second output array at time `T = 512 t + j`. -/
theorem pay4_eq (c : Dev nD) (t : Fin cfg0.N) (r : Fin 64) (j : Fin 512) (T : Fin 2048) (hT : T.val = t.val * 512 + j.val) :
    k0_pay4 (iblk m c 0 t) (wa m c) (hw m c) (pa m c) (ca m c) (ix2 r j) = G13 m c (ix2 r T) := by
  pointwise [k0_pay4, G13]
  simp only [pay2_eq m c t _ j T hT]

/-- The first output array after the run. -/
theorem final12 (c : Dev nD) : (dats m 0 c).arrAt 12 cfg0.N = G12 m c := by
  refine (dats m 0 c).arrAt_eq_of_covers 12 _ (by decide +kernel) fun t hf y => ?_
  blk_simp
  rw [after0_12, outs_eq]
  dsimp only
  idx_vars y
  have hN : t.val < 4 := lt_of_lt_of_eq t.isLt (show cfg0.N = 4 from N_0)
  have e : ((View.whole main_v6_0).slice (win0_12.rect t)).emb (ix2 y0 y1)
      = ix2 y0 (⟨t.val * 512 + y1.val, by omega⟩ : Fin 2048) := by
    blk_ext [idx12 t]
  rw [e]
  exact pay3_eq m c t y0 y1 _ rfl

/-- The second output array after the run. -/
theorem final13 (c : Dev nD) : (dats m 0 c).arrAt 13 cfg0.N = G13 m c := by
  refine (dats m 0 c).arrAt_eq_of_covers 13 _ (by decide +kernel) fun t hf y => ?_
  blk_simp
  rw [after0_13, outs_eq]
  dsimp only
  idx_vars y
  have hN : t.val < 4 := lt_of_lt_of_eq t.isLt (show cfg0.N = 4 from N_0)
  have e : ((View.whole main_v6_1).slice (win0_13.rect t)).emb (ix2 y0 y1)
      = ix2 y0 (⟨t.val * 512 + y1.val, by omega⟩ : Fin 2048) := by
    blk_ext [idx13 t]
  rw [e]
  exact pay4_eq m c t y0 y1 _ rfl

/-! ## The run, the lines after the region read -/

/-- Every run ends with the two results at the output arrays, reshaped and transposed as the lines after the region say. -/
theorem run_results (ρ : Dev nD → PrngReg) : θ_run defs (onTc (τ := τ) (main (F := Ideal))) ⟨m, fun _ => 0, ρ⟩ fun r => ∀ c : Dev nD,
      r.2.mem ((c.tc : Thread nD τ).loc main_v8)
          = transpose S16x2048x205 [1, 2, 0] (shapeCast S205x16x2048 (G12 m c) shapeCasts_S3280x2048_S205x16x2048) transposes_S205x16x2048_S16x2048x205_1_2_0
      ∧ r.2.mem ((c.tc : Thread nD τ).loc main_v9) = shapeCast S4x16x2048 (G13 m c) shapeCasts_S64x2048_S4x16x2048 := by
  refine (θ_run defs _ _).mono (fun r h c => ?_) (run_main m ρ)
  have h8 := (h c).2 main_v8 (Pipeline.mem_restRefs_of main_v8 (by decide) (by decide))
  have h9 := (h c).2 main_v9 (Pipeline.mem_restRefs_of main_v9 (by decide) (by decide))
  have e12 : Pipeline.withArrays (cfgs 0).spec c (V0 m c) (fun w => (dats m 0 c).arrAt w (cfgs 0).N) (Proc.tc.devRef main_v6_0) = G12 m c :=
    (Pipeline.withArrays_arr spec0 launch0.win.arr_inj c (V0 m c) (fun w => (dats m 0 c).arrAt w (cfgs 0).N) 12).trans (final12 m c)
  have e13 : Pipeline.withArrays (cfgs 0).spec c (V0 m c) (fun w => (dats m 0 c).arrAt w (cfgs 0).N) (Proc.tc.devRef main_v6_1) = G13 m c :=
    (Pipeline.withArrays_arr spec0 launch0.win.arr_inj c (V0 m c) (fun w => (dats m 0 c).arrAt w (cfgs 0).N) 13).trans (final13 m c)
  refine ⟨h8.trans ?_, h9.trans ?_⟩
  · unfold Pipeline.afterTail₀
    simp only [hostOps1, List.flatten_cons, List.flatten_nil, List.append_nil]
    after_results
    rw [e12]
    rfl
  · unfold Pipeline.afterTail₀
    simp only [hostOps1, List.flatten_cons, List.flatten_nil, List.append_nil]
    after_results
    rw [e13]
    rfl

end Cert.KArr

end
-- ==== Proof.Latent.lean ====
module

public import Idealize.ShloMosaic.Lib.Pointwise
public import Mathlib.Analysis.SpecialFunctions.Trigonometric.DerivHyp

@[expose] public section

noncomputable section

namespace Cert.Latent

open Idealize.ShloMosaic

/-! ## The literals -/

/-- The float literal of 3.5. -/
theorem lit_3_5 : Ideal.ofBits .f32 0x40600000#32 = ((3.5 : ℝ) : EReal) := by
  simp [Ideal.ofBits, Ideal.ieee, -EReal.coe_mul]; norm_num
/-- The float literal of 2. -/
theorem lit_2 : Ideal.ofBits .f32 0x40000000#32 = ((2 : ℝ) : EReal) := by
  simp [Ideal.ofBits, Ideal.ieee, -EReal.coe_mul]; norm_num
/-- The float literal of 3. -/
theorem lit_3 : Ideal.ofBits .f32 0x40400000#32 = ((3 : ℝ) : EReal) := by
  simp [Ideal.ofBits, Ideal.ieee, -EReal.coe_mul]; norm_num

/-! ## The quantiser -/

/-- The quantised latent of a projection `z` at half width `h`: `h · tanh z` rounded to the nearest integer, ties to even. -/
def lat (h z : EReal) : EReal := Ideal.liftRound Ideal.roundHalfEven (h * Ideal.tanh z)

/-- The hyperbolic tangent is a real between -1 and 1. -/
theorem tanh_real (z : EReal) : ∃ r : ℝ, Ideal.tanh z = (r : EReal) ∧ -1 ≤ r ∧ r ≤ 1 := by
  induction z using EReal.rec with
  | bot => exact ⟨-1, by rw [Ideal.tanh_bot]; norm_num, le_refl _, by norm_num⟩
  | top => exact ⟨1, by rw [Ideal.tanh_top]; norm_num, by norm_num, le_refl _⟩
  | coe r => exact ⟨Real.tanh r, Ideal.tanh_coe r, (Real.neg_one_lt_tanh r).le, (Real.tanh_lt_one r).le⟩

/-- Of a finite projection it is more than -1. -/
theorem tanh_finite (z : ℝ) : ∃ r : ℝ, Ideal.tanh (z : EReal) = (r : EReal) ∧ -1 < r ∧ r ≤ 1 :=
  ⟨Real.tanh z, Ideal.tanh_coe z, Real.neg_one_lt_tanh z, (Real.tanh_lt_one z).le⟩

/-- A rounding is at most a half away. -/
theorem round_near (r : ℝ) : (Ideal.roundHalfEven r : ℝ) ≤ r + 1 / 2 ∧ r - 1 / 2 ≤ (Ideal.roundHalfEven r : ℝ) := by
  have h1 := Int.floor_le r
  have h2 := Int.lt_floor_add_one r
  unfold Ideal.roundHalfEven
  dsimp only
  split_ifs <;> push_cast <;> constructor <;> linarith

/-- The straight-through form of the quantiser is the quantiser: the bounded value is real, so adding and subtracting it cancels. -/
theorem straight_through (h : ℝ) (z : EReal) :
    (h : EReal) * Ideal.tanh z + (Ideal.liftRound Ideal.roundHalfEven ((h : EReal) * Ideal.tanh z) - (h : EReal) * Ideal.tanh z)
      = lat h z := by
  obtain ⟨r, hr, -⟩ := tanh_real z
  unfold lat
  rw [hr, ← EReal.coe_mul, Ideal.liftRound_coe, ← EReal.coe_sub, ← EReal.coe_add]
  congr 1; ring

/-- A value is an integer from `lo` to `hi`. -/
def IsInt (lo hi : ℤ) (q : EReal) : Prop := ∃ n : ℤ, q = (((n : ℤ) : ℝ) : EReal) ∧ lo ≤ n ∧ n ≤ hi

/-- Half width 2: the latent is an integer from -2 to 2. -/
theorem lat_2 (z : EReal) : IsInt (-2) 2 (lat ((2 : ℝ) : EReal) z) := by
  obtain ⟨r, hr, h1, h2⟩ := tanh_real z
  refine ⟨Ideal.roundHalfEven (2 * r), ?_, ?_⟩
  · unfold lat; rw [hr, ← EReal.coe_mul, Ideal.liftRound_coe]
  · obtain ⟨a, b⟩ := round_near (2 * r)
    constructor
    · have : (-3 : ℝ) < (Ideal.roundHalfEven (2 * r) : ℝ) := by linarith
      have : (-3 : ℤ) < Ideal.roundHalfEven (2 * r) := by exact_mod_cast this
      omega
    · have : (Ideal.roundHalfEven (2 * r) : ℝ) < (3 : ℝ) := by linarith
      have : Ideal.roundHalfEven (2 * r) < (3 : ℤ) := by exact_mod_cast this
      omega

/-- Half width 3: the latent is an integer from -3 to 3. -/
theorem lat_3 (z : EReal) : IsInt (-3) 3 (lat ((3 : ℝ) : EReal) z) := by
  obtain ⟨r, hr, h1, h2⟩ := tanh_real z
  refine ⟨Ideal.roundHalfEven (3 * r), ?_, ?_⟩
  · unfold lat; rw [hr, ← EReal.coe_mul, Ideal.liftRound_coe]
  · obtain ⟨a, b⟩ := round_near (3 * r)
    constructor
    · have : (-4 : ℝ) < (Ideal.roundHalfEven (3 * r) : ℝ) := by linarith
      have : (-4 : ℤ) < Ideal.roundHalfEven (3 * r) := by exact_mod_cast this
      omega
    · have : (Ideal.roundHalfEven (3 * r) : ℝ) < (4 : ℝ) := by linarith
      have : Ideal.roundHalfEven (3 * r) < (4 : ℤ) := by exact_mod_cast this
      omega

/-- Half width 3.5, of a finite projection: the latent is at least -3, since -3.5 itself is not reached. -/
theorem lat_3_5 (z : ℝ) : IsInt (-3) 4 (lat ((3.5 : ℝ) : EReal) z) := by
  obtain ⟨r, hr, h1, h2⟩ := tanh_finite z
  refine ⟨Ideal.roundHalfEven (3.5 * r), ?_, ?_⟩
  · unfold lat; rw [hr, ← EReal.coe_mul, Ideal.liftRound_coe]
  · obtain ⟨a, b⟩ := round_near (3.5 * r)
    constructor
    · have : (-4 : ℝ) < (Ideal.roundHalfEven (3.5 * r) : ℝ) := by linarith
      have : (-4 : ℤ) < Ideal.roundHalfEven (3.5 * r) := by exact_mod_cast this
      omega
    · have : (Ideal.roundHalfEven (3.5 * r) : ℝ) < (5 : ℝ) := by linarith
      have : Ideal.roundHalfEven (3.5 * r) < (5 : ℤ) := by exact_mod_cast this
      omega

/-- An integer of a range is one of any wider range. -/
theorem IsInt.wider {lo hi lo' hi' : ℤ} {q : EReal} (h : IsInt lo hi q) (hl : lo' ≤ lo) (hh : hi ≤ hi') : IsInt lo' hi' q := by
  obtain ⟨n, e, h1, h2⟩ := h
  exact ⟨n, e, le_trans hl h1, le_trans h2 hh⟩

/-! ## From a float to a word -/

/-- An integer in the range of a word converts to itself. -/
theorem word_int (n : ℤ) (h1 : -2147483648 ≤ n) (h2 : n ≤ 2147483647) :
    Ideal.fptosi 32 (((n : ℤ) : ℝ) : EReal) = BitVec.ofInt 32 n := by
  unfold Ideal.fptosi
  rw [Ideal.toIntClamped_coe, Int.floor_intCast, Int.ceil_intCast, ite_self]
  congr 1
  norm_num
  omega

/-- A nonnegative integer and a half converts to the integer: the conversion rounds toward zero. -/
theorem word_half (n : ℤ) (h1 : 0 ≤ n) (h2 : n ≤ 2147483647) :
    Ideal.fptosi 32 (((n : ℝ) + 1 / 2 : ℝ) : EReal) = BitVec.ofInt 32 n := by
  unfold Ideal.fptosi
  have hn : (0 : ℝ) ≤ n := by exact_mod_cast h1
  have hf : ⌊(n : ℝ) + 1 / 2⌋ = n := by rw [Int.floor_eq_iff]; constructor <;> linarith
  rw [Ideal.toIntClamped_coe, if_pos (by linarith), hf]
  congr 1
  norm_num
  omega

/-! ## Sums -/

/-- A sum over rows `16 k + b'` that keeps those of one batch `b` is the sum over `k`. -/
theorem sum_batch {n N : ℕ} (hN : n * 16 = N) (b : ℕ) (hb : b < 16) (f : Fin n → EReal) (g : Fin N → EReal) :
    (∑ j : Fin N, (if b = j.val % 16 then f ⟨j.val / 16, by omega⟩ else 0) * g j)
      = ∑ k : Fin n, f k * g ⟨16 * k.val + b, by omega⟩ := by
  subst hN
  rw [← (finProdFinEquiv (m := n) (n := 16)).sum_comp, Fintype.sum_prod_type]
  refine Finset.sum_congr rfl fun k _ => ?_
  rw [Finset.sum_eq_single (⟨b, hb⟩ : Fin 16)]
  · have h1 : (finProdFinEquiv (k, (⟨b, hb⟩ : Fin 16))) = (⟨16 * k.val + b, by omega⟩ : Fin (n * 16)) := by
      apply Fin.ext; simp [finProdFinEquiv]; omega
    rw [h1, if_pos (by simp only []; omega)]
    congr 2
    apply Fin.ext; simp only []; omega
  · intro j _ hj
    rw [if_neg, zero_mul]
    intro h
    apply hj; apply Fin.ext
    show j.val = b
    have e : (finProdFinEquiv (k, j)).val = j.val + 16 * k.val := rfl
    rw [e] at h
    omega
  · intro h; exact absurd (Finset.mem_univ _) h

/-- A sum that vanishes outside the `n` indices from `a` on is the sum over those. -/
theorem sum_window {a n N : ℕ} (hN : a + n ≤ N) (F : Fin N → EReal) (h0 : ∀ i : Fin N, i.val < a ∨ a + n ≤ i.val → F i = 0) :
    ∑ i, F i = ∑ i : Fin n, F ⟨a + i.val, by omega⟩ := by
  obtain ⟨b, rfl⟩ := Nat.exists_eq_add_of_le hN
  rw [Fin.sum_univ_add, Fin.sum_univ_add]
  rw [Finset.sum_eq_zero (fun i _ => h0 _ (Or.inl (by simp))), zero_add]
  rw [Finset.sum_eq_zero (s := Finset.univ) (f := fun i : Fin b => F (Fin.natAdd (a + n) i)) (fun i _ => h0 _ (Or.inr (by simp))), add_zero]
  rfl

/-- The twenty latents by head: 5, 5, 6 and 4 of them. -/
theorem sum_heads (F : Fin 20 → EReal) :
    ∑ k, F k = (∑ i : Fin 5, F ⟨i.val, by omega⟩) + (∑ i : Fin 5, F ⟨5 + i.val, by omega⟩)
      + (∑ i : Fin 6, F ⟨10 + i.val, by omega⟩) + ∑ i : Fin 4, F ⟨16 + i.val, by omega⟩ := by
  have h1 := Fin.sum_univ_add (a := 16) (b := 4) F
  have h2 := Fin.sum_univ_add (a := 10) (b := 6) (fun i => F (Fin.castAdd 4 i))
  have h3 := Fin.sum_univ_add (a := 5) (b := 5) (fun i => F (Fin.castAdd 4 (Fin.castAdd 6 i)))
  exact h1.trans (by rw [h2, h3]; rfl)

/-- A sum of reals is the same sum in the extended reals. -/
theorem coe_sum {n : ℕ} (f : Fin n → ℝ) : ((∑ i, f i : ℝ) : EReal) = ∑ i, (f i : EReal) := by
  classical
  have key : ∀ s : Finset (Fin n), ((∑ i ∈ s, f i : ℝ) : EReal) = ∑ i ∈ s, (f i : EReal) := by
    intro s
    induction s using Finset.induction_on with
    | empty => simp
    | insert j s hj ih => rw [Finset.sum_insert hj, Finset.sum_insert hj, EReal.coe_add, ih]
  exact key _

/-! ## The projections of the four heads -/

/-- The projection of the expression features (12 to 74) on channel `i` of a head of 5 channels. -/
def zExp (x : FVec Ideal ⟨3, ![16, 2048, 205]⟩ .f32) (W : FVec Ideal ⟨2, ![63, 5]⟩ .f32) (b : Fin 16) (t : Fin 2048) (i : Fin 5) : EReal :=
  ∑ f : Fin 63, x (ix3 b t (⟨12 + f.val, by omega⟩ : Fin 205)) * W (ix2 f i)

/-- The projection of the remaining features (75 to 204) on channel `i`. -/
def zRest (x : FVec Ideal ⟨3, ![16, 2048, 205]⟩ .f32) (W : FVec Ideal ⟨2, ![130, 6]⟩ .f32) (b : Fin 16) (t : Fin 2048) (i : Fin 6) : EReal :=
  ∑ f : Fin 130, x (ix3 b t (⟨75 + f.val, by omega⟩ : Fin 205)) * W (ix2 f i)

/-- The projection of the rotation features (0 to 11) on channel `i`. -/
def zRot (x : FVec Ideal ⟨3, ![16, 2048, 205]⟩ .f32) (W : FVec Ideal ⟨2, ![12, 4]⟩ .f32) (b : Fin 16) (t : Fin 2048) (i : Fin 4) : EReal :=
  ∑ f : Fin 12, x (ix3 b t (⟨f.val, by omega⟩ : Fin 205)) * W (ix2 f i)

/-- The projection on finite inputs is finite. -/
theorem zExp_finite (x : FVec Ideal ⟨3, ![16, 2048, 205]⟩ .f32) (W : FVec Ideal ⟨2, ![63, 5]⟩ .f32) (b : Fin 16) (t : Fin 2048) (i : Fin 5)
    (hx : ∀ f : Fin 63, ∃ r : ℝ, x (ix3 b t (⟨12 + f.val, by omega⟩ : Fin 205)) = (r : EReal)) (hW : ∀ f, ∃ r : ℝ, W (ix2 f i) = (r : EReal)) :
    ∃ r : ℝ, zExp x W b t i = (r : EReal) := by
  choose xr hx using hx
  choose wr hW using hW
  refine ⟨∑ f, xr f * wr f, ?_⟩
  unfold zExp
  rw [coe_sum]
  refine Finset.sum_congr rfl fun f _ => ?_
  rw [hx, hW, EReal.coe_mul]

/-! ## Words that add up -/

/-- Words that are integers add up to the sum of the integers. -/
theorem fold_words {n : ℕ} (f : Fin n → BitVec 32) (a : Fin n → ℤ) (h : ∀ i, f i = BitVec.ofInt 32 (a i)) :
    Finset.fold IntOp.addi 0#32 f Finset.univ = BitVec.ofInt 32 (∑ i, a i) := by
  classical
  have key : ∀ s : Finset (Fin n), Finset.fold IntOp.addi 0#32 f s = BitVec.ofInt 32 (∑ i ∈ s, a i) := by
    intro s
    induction s using Finset.induction_on with
    | empty => rfl
    | insert j s hj ih =>
      rw [Finset.fold_insert hj, Finset.sum_insert hj, ih, h, BitVec.ofInt_add]
      rfl
  exact key _

/-- An array read at two indices of equal coordinates. -/
theorem at2 {n k : ℕ} (v : (⟨2, ![n, k]⟩ : Shape).Idx → EReal) {a a' : Fin n} {b b' : Fin k} (ha : a.val = a'.val) (hb : b.val = b'.val) :
    v (ix2 a b) = v (ix2 a' b') := by
  rw [Fin.ext ha, Fin.ext hb]

/-- A weighted sum of a column, the column named twice. -/
theorem sum_at {n k : ℕ} (q : Fin n → EReal) (v : (⟨2, ![n, k]⟩ : Shape).Idx → EReal) {a b : Fin k} (h : a.val = b.val) :
    (∑ i, q i * v (ix2 i a)) = ∑ i, q i * v (ix2 i b) := by
  rw [Fin.ext h]

/-! ## The decoder -/

/-- Feature `f` of the decoded output, from the latents of the four heads (`q1`, `q2` of 8 levels, `q3` of 5, `q4` of 7):
    features 0–8 and 138 come from the rotation head, 9–11, 75–137 and 139–204 from the remaining features' head, 12–59 and
    60–74 from the two expression heads. -/
def decode (q1 q2 : Fin 5 → EReal) (q3 : Fin 6 → EReal) (q4 : Fin 4 → EReal) (W5 : FVec Ideal ⟨2, ![5, 15]⟩ .f32)
    (W6 : FVec Ideal ⟨2, ![5, 48]⟩ .f32) (W7 : FVec Ideal ⟨2, ![6, 132]⟩ .f32) (W8 : FVec Ideal ⟨2, ![4, 10]⟩ .f32) (f : Fin 205) : EReal :=
  if h : f.val < 9 then ∑ i, q4 i * W8 (ix2 i (⟨f.val, by omega⟩ : Fin 10))
  else if h : f.val < 12 then ∑ i, q3 i * W7 (ix2 i (⟨f.val - 9, by omega⟩ : Fin 132))
  else if h : f.val < 60 then ∑ i, q2 i * W6 (ix2 i (⟨f.val - 12, by omega⟩ : Fin 48))
  else if h : f.val < 75 then ∑ i, q1 i * W5 (ix2 i (⟨f.val - 60, by omega⟩ : Fin 15))
  else if h : f.val < 138 then ∑ i, q3 i * W7 (ix2 i (⟨f.val - 72, by omega⟩ : Fin 132))
  else if h : f.val < 139 then ∑ i, q4 i * W8 (ix2 i (⟨f.val - 129, by omega⟩ : Fin 10))
  else ∑ i, q3 i * W7 (ix2 i (⟨f.val - 73, by omega⟩ : Fin 132))

end Cert.Latent

end
-- ==== Proof.KAsm.lean ====
module

public import proofs.«01_k».proof.Proof.KBody
public import Idealize.ShloMosaic.Lib.Pointwise

@[expose] public section

set_option maxRecDepth 16384

noncomputable section

namespace Cert.KAsm

open Cert.KernelIdeal Cert.KernelIdeal.Gen Idealize.ShloMosaic Idealize.ShloMosaic.TcCoe
open Cert.KBody

/-- The floor of a word over 16 as the kernel computes it: the truncated quotient, one less where the signs differ and
    the remainder is not zero. -/
abbrev fdiv (v : BitVec 32) : BitVec 32 :=
  Scalar.select
    (IntOp.andi
      (IntOp.cmpi CmpIPredicate.ne
        (IntOp.subi (BitVec.setWidth 32 (IntOp.cmpi CmpIPredicate.sgt v 0#32))
          (BitVec.setWidth 32 (IntOp.cmpi CmpIPredicate.slt v 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector v 16#32) 0#32))
    (IntOp.subi (IntOp.divsi ArithUnit.vector v 16#32) 1#32)
    (IntOp.divsi ArithUnit.vector v 16#32)

/-- The computed floor over 16 is the quotient of natural numbers, for each of the 3280 rows. -/
theorem fdiv_table : ∀ r : Fin 3280, fdiv (BitVec.ofNat 32 r.val) = BitVec.ofNat 32 (r.val / 16) := by
  decide +kernel

/-- The computed floor over 16 is the quotient of natural numbers, for a row given as a natural number. -/
theorem fdiv_ofNat (r : ℕ) (hr : r < 3280) : fdiv (BitVec.ofNat 32 r) = BitVec.ofNat 32 (r / 16) :=
  fdiv_table ⟨r, hr⟩

/-- Equality of two small words is equality of the numbers. -/
theorem cmpi_eq_ofNat (a b : ℕ) (ha : a < 2 ^ 32) (hb : b < 2 ^ 32) :
    IntOp.cmpi CmpIPredicate.eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · subst e; simp [IntOp.cmpi]
  · rw [if_neg e]
    simp only [IntOp.cmpi]
    have : (BitVec.ofNat 32 a == BitVec.ofNat 32 b) = false := by
      rw [beq_eq_false_iff_ne]; exact fun hh => e (h.mp hh)
    rw [this]; rfl

/-- A sum against a row of the unit matrix picks one summand: row `r` of the matrix has its one in column `r / 16`. -/
theorem unit_sum {n : ℕ} (hn : n ≤ 205) (r : ℕ) (hr : r < 16 * n) (f : Fin n → EReal) :
    (∑ x : Fin n, Scalar.select (IntOp.cmpi CmpIPredicate.eq (fdiv (BitVec.ofNat 32 r)) (BitVec.ofNat 32 x.val)) (f x) 0)
      = f ⟨r / 16, by omega⟩ := by
  rw [fdiv_ofNat r (by omega)]
  rw [Finset.sum_eq_single (⟨r / 16, by omega⟩ : Fin n)]
  · rw [cmpi_eq_ofNat _ _ (by omega) (by simp only []; omega), if_pos rfl]; rfl
  · intro b _ hb
    rw [cmpi_eq_ofNat _ _ (by omega) (by omega), if_neg (fun h => hb (Fin.ext h.symm))]; rfl
  · intro h; exact absurd (Finset.mem_univ _) h

/-- The low four bits of a word are the remainder modulo 16. -/
theorem and15 (r : ℕ) (hr : r < 2 ^ 32) : IntOp.andi (BitVec.ofNat 32 r) 15#32 = BitVec.ofNat 32 (r % 16) := by
  apply BitVec.eq_of_toNat_eq
  simp only [IntOp.andi, BitVec.toNat_and, BitVec.toNat_ofNat, Nat.mod_eq_of_lt hr]
  rw [show (15 % 2 ^ 32 : ℕ) = 2 ^ 4 - 1 from rfl, Nat.and_two_pow_sub_one_eq_mod]
  omega

/-- The mask keeps the entries whose row and column agree modulo 16. -/
theorem mask_select (r t : ℕ) (hr : r < 2 ^ 32) (ht : t < 2 ^ 32) (a : EReal) :
    Scalar.select (IntOp.cmpi CmpIPredicate.eq (IntOp.andi (BitVec.ofNat 32 r) 15#32)
      (IntOp.andi (BitVec.ofNat 32 t) 15#32)) a 0 = if r % 16 = t % 16 then a else 0 := by
  rw [and15 r hr, and15 t ht, cmpi_eq_ofNat _ _ (by omega) (by omega)]
  by_cases e : r % 16 = t % 16
  · rw [if_pos e, if_pos e]; rfl
  · rw [if_neg e, if_neg e]; rfl

/-- The encoder matrix: entry `(16 r + b, 16 f + b')` is the padded weight of row `r`, column `f` where `b = b'`, else zero. -/
theorem WA_apply (x1 x2 : Vec Ideal S5x63 .f32) (x3 : Vec Ideal S6x130 .f32) (x4 : Vec Ideal S4x12 .f32)
    (r : Fin 320) (t : Fin 3280) :
    WA x1 x2 x3 x4 (ix2 r t)
      = if r.val % 16 = t.val % 16 then k0_pay5 x1 x2 x3 x4 (ix2 ⟨r.val / 16, by omega⟩ ⟨t.val / 16, by omega⟩) else 0 := by
  pointwise [WA, k0_pay14, k0_pay12, k0_pay13]
  rw [mask_select _ _ (by omega) (by omega)]
  simp only [unit_sum (n := 205) (by omega) t.val (by omega)]
  rw [unit_sum (n := 20) (by omega) r.val (by omega)]

/-- The decoder's padded weights, one row per latent channel. -/
abbrev wout (x5 : Vec Ideal S5x15 .f32) (x6 : Vec Ideal S5x48 .f32) (x7 : Vec Ideal S6x132 .f32) (x8 : Vec Ideal S4x10 .f32) :
    FVec Ideal S20x205 .f32 :=
  k0_pay11 x7 x8 (k0_pay6 x5) (k0_pay7 x6) k0_pay8 (k0_pay9 x7) k0_pay10

/-- The decoder matrix: entry `(16 f + b, 16 r + b')` is the padded weight of row `r`, column `f` where `b = b'`, else zero. -/
theorem WO_apply (x5 : Vec Ideal S5x15 .f32) (x6 : Vec Ideal S5x48 .f32) (x7 : Vec Ideal S6x132 .f32) (x8 : Vec Ideal S4x10 .f32)
    (t : Fin 3280) (r : Fin 320) :
    WO x5 x6 x7 x8 (ix2 t r)
      = if t.val % 16 = r.val % 16 then wout x5 x6 x7 x8 (ix2 ⟨r.val / 16, by omega⟩ ⟨t.val / 16, by omega⟩) else 0 := by
  pointwise [WO, k0_pay21, k0_pay17, k0_pay15, k0_pay16, k0_pay18, k0_pay19, k0_pay20]
  rw [mask_select _ _ (by omega) (by omega)]
  simp only [unit_sum (n := 205) (by omega) t.val (by omega)]
  rw [unit_sum (n := 20) (by omega) r.val (by omega)]

/-- The matrix of powers: entry `(16 h + b, 16 r + b')` is the power of head `h`, channel `r` where `b = b'`, else zero. -/
theorem PA_apply (x10 : Vec Ideal S4x20 .f32) (h : Fin 64) (r : Fin 320) :
    PA x10 (ix2 h r)
      = if h.val % 16 = r.val % 16 then x10 (ix2 ⟨h.val / 16, by omega⟩ ⟨r.val / 16, by omega⟩) else 0 := by
  pointwise [PA, k0_pay26, k0_pay25, k0_pay22, k0_pay23, k0_pay24]
  rw [mask_select _ _ (by omega) (by omega)]
  simp only [unit_sum (n := 20) (by omega) r.val (by omega)]
  rw [unit_sum (n := 4) (by omega) h.val (by omega)]

/-- The column of half widths: every sixteen rows one channel's. -/
theorem HALF_apply (x9 : Vec Ideal S20x1 .f32) (r : Fin 320) :
    HALF x9 (ix2 r 0) = x9 (ix2 ⟨r.val / 16, by omega⟩ 0) := by
  pointwise [HALF, k0_pay28, k0_pay27]
  rw [unit_sum (n := 20) (by omega) r.val (by omega)]

/-- The column of code constants: every sixteen rows one head's. -/
theorem CA_apply (x11 : Vec Ideal S4x1 .f32) (h : Fin 64) :
    CA x11 (ix2 h 0) = x11 (ix2 ⟨h.val / 16, by omega⟩ 0) := by
  pointwise [CA, k0_pay1, k0_pay29]
  rw [unit_sum (n := 4) (by omega) h.val (by omega)]

end Cert.KAsm

end
-- ==== Proof.KWeights.lean ====
module

public import proofs.«01_k».proof.Proof.Latent
public import proofs.«01_k».proof.Proof.KAsm

@[expose] public section

set_option maxRecDepth 16384

noncomputable section

namespace Cert.KWeights

open Cert.KernelIdeal Cert.KernelIdeal.Gen Idealize.ShloMosaic Idealize.ShloMosaic.TcCoe
open Cert.Latent Cert.KBody Cert.KAsm

/-! ## The padded encoder weights, head by head -/

section Encoder

variable (x1 x2 : Vec Ideal S5x63 .f32) (x3 : Vec Ideal S6x130 .f32) (x4 : Vec Ideal S4x12 .f32)

/-- A row of the padded encoder matrix in the first head: the head's weights at its own features, zero elsewhere. -/
theorem enc_1 (i : Fin 5) (f : Fin 205) : k0_pay5 x1 x2 x3 x4 (ix2 (⟨i.val, by omega⟩ : Fin 20) f)
    = if h : 12 ≤ f.val ∧ f.val < 75 then x1 (ix2 i (⟨f.val - 12, by omega⟩ : Fin 63)) else 0 := by
  pointwise [k0_pay5]
  rcases (by omega : f.val < 12 ∨ (12 ≤ f.val ∧ f.val < 75) ∨ 75 ≤ f.val) with h | h | h <;> simp (disch := omega) only [dif_pos, dif_neg]
  all_goals exact at2 _ (by dsimp only <;> omega) (by dsimp only <;> omega)

/-- A row of the padded encoder matrix in the second head: the head's weights at its own features, zero elsewhere. -/
theorem enc_2 (i : Fin 5) (f : Fin 205) : k0_pay5 x1 x2 x3 x4 (ix2 (⟨5 + i.val, by omega⟩ : Fin 20) f)
    = if h : 12 ≤ f.val ∧ f.val < 75 then x2 (ix2 i (⟨f.val - 12, by omega⟩ : Fin 63)) else 0 := by
  pointwise [k0_pay5]
  rcases (by omega : f.val < 12 ∨ (12 ≤ f.val ∧ f.val < 75) ∨ 75 ≤ f.val) with h | h | h <;> simp (disch := omega) only [dif_pos, dif_neg]
  all_goals exact at2 _ (by dsimp only <;> omega) (by dsimp only <;> omega)

/-- A row of the padded encoder matrix in the third head: the head's weights at its own features, zero elsewhere. -/
theorem enc_3 (i : Fin 6) (f : Fin 205) : k0_pay5 x1 x2 x3 x4 (ix2 (⟨10 + i.val, by omega⟩ : Fin 20) f)
    = if h : 75 ≤ f.val then x3 (ix2 i (⟨f.val - 75, by omega⟩ : Fin 130)) else 0 := by
  pointwise [k0_pay5]
  rcases (by omega : f.val < 75 ∨ 75 ≤ f.val) with h | h <;> simp (disch := omega) only [dif_pos, dif_neg]
  all_goals exact at2 _ (by dsimp only <;> omega) (by dsimp only <;> omega)

/-- A row of the padded encoder matrix in the fourth head: the head's weights at its own features, zero elsewhere. -/
theorem enc_4 (i : Fin 4) (f : Fin 205) : k0_pay5 x1 x2 x3 x4 (ix2 (⟨16 + i.val, by omega⟩ : Fin 20) f)
    = if h : f.val < 12 then x4 (ix2 i (⟨f.val, by omega⟩ : Fin 12)) else 0 := by
  pointwise [k0_pay5]
  rcases (by omega : f.val < 12 ∨ 12 ≤ f.val) with h | h <;> simp (disch := omega) only [dif_pos, dif_neg]
  all_goals exact at2 _ (by dsimp only <;> omega) (by dsimp only <;> omega)

/-- A padded row of the first head against the features is the head's own sum. -/
theorem proj_1 (i : Fin 5) (X : Fin 205 → EReal) :
    (∑ f, k0_pay5 x1 x2 x3 x4 (ix2 (⟨i.val, by omega⟩ : Fin 20) f) * X f) = ∑ f : Fin 63, X ⟨12 + f.val, by omega⟩ * x1 (ix2 i f) := by
  rw [sum_window (a := 12) (n := 63) (by omega)]
  · refine Finset.sum_congr rfl fun f _ => ?_
    rw [enc_1, dif_pos (by constructor <;> dsimp only <;> omega), mul_comm]
    congr 3; apply Fin.ext; dsimp only; omega
  · intro f hf
    rw [enc_1, dif_neg (by omega), zero_mul]

/-- A padded row of the second head against the features is the head's own sum. -/
theorem proj_2 (i : Fin 5) (X : Fin 205 → EReal) :
    (∑ f, k0_pay5 x1 x2 x3 x4 (ix2 (⟨5 + i.val, by omega⟩ : Fin 20) f) * X f) = ∑ f : Fin 63, X ⟨12 + f.val, by omega⟩ * x2 (ix2 i f) := by
  rw [sum_window (a := 12) (n := 63) (by omega)]
  · refine Finset.sum_congr rfl fun f _ => ?_
    rw [enc_2, dif_pos (by constructor <;> dsimp only <;> omega), mul_comm]
    congr 3; apply Fin.ext; dsimp only; omega
  · intro f hf
    rw [enc_2, dif_neg (by omega), zero_mul]

/-- A padded row of the third head against the features is the head's own sum. -/
theorem proj_3 (i : Fin 6) (X : Fin 205 → EReal) :
    (∑ f, k0_pay5 x1 x2 x3 x4 (ix2 (⟨10 + i.val, by omega⟩ : Fin 20) f) * X f) = ∑ f : Fin 130, X ⟨75 + f.val, by omega⟩ * x3 (ix2 i f) := by
  rw [sum_window (a := 75) (n := 130) (by omega)]
  · refine Finset.sum_congr rfl fun f _ => ?_
    rw [enc_3, dif_pos (by dsimp only; omega), mul_comm]
    congr 3; apply Fin.ext; dsimp only; omega
  · intro f hf
    rw [enc_3, dif_neg (by omega), zero_mul]

/-- A padded row of the fourth head against the features is the head's own sum. -/
theorem proj_4 (i : Fin 4) (X : Fin 205 → EReal) :
    (∑ f, k0_pay5 x1 x2 x3 x4 (ix2 (⟨16 + i.val, by omega⟩ : Fin 20) f) * X f) = ∑ f : Fin 12, X ⟨f.val, by omega⟩ * x4 (ix2 i f) := by
  rw [sum_window (a := 0) (n := 12) (by omega)]
  · refine Finset.sum_congr rfl fun f _ => ?_
    rw [enc_4, dif_pos (by dsimp only; omega), mul_comm]
    exact congrArg₂ (· * ·) (congrArg X (Fin.ext (Nat.zero_add _))) (at2 _ rfl (Nat.zero_add _))
  · intro f hf
    rw [enc_4, dif_neg (by omega), zero_mul]

end Encoder

/-! ## The padded decoder weights, head by head -/

section Decoder

variable (x5 : Vec Ideal S5x15 .f32) (x6 : Vec Ideal S5x48 .f32) (x7 : Vec Ideal S6x132 .f32) (x8 : Vec Ideal S4x10 .f32)

/-- A row of the padded decoder matrix in the first head: the head's weights at the features it decodes, zero elsewhere. -/
theorem dec_1 (i : Fin 5) (f : Fin 205) : wout x5 x6 x7 x8 (ix2 (⟨i.val, by omega⟩ : Fin 20) f)
    = if h : 60 ≤ f.val ∧ f.val < 75 then x5 (ix2 i (⟨f.val - 60, by omega⟩ : Fin 15)) else 0 := by
  pointwise [k0_pay11, k0_pay6, k0_pay7, k0_pay8, k0_pay9, k0_pay10]
  rcases (by omega : f.val < 60 ∨ (60 ≤ f.val ∧ f.val < 75) ∨ 75 ≤ f.val) with h | h | h <;> simp (disch := omega) only [dif_pos, dif_neg]
  all_goals exact at2 _ (by dsimp only <;> omega) (by dsimp only <;> omega)

/-- A row of the padded decoder matrix in the second head: the head's weights at the features it decodes, zero elsewhere. -/
theorem dec_2 (i : Fin 5) (f : Fin 205) : wout x5 x6 x7 x8 (ix2 (⟨5 + i.val, by omega⟩ : Fin 20) f)
    = if h : 12 ≤ f.val ∧ f.val < 60 then x6 (ix2 i (⟨f.val - 12, by omega⟩ : Fin 48)) else 0 := by
  pointwise [k0_pay11, k0_pay6, k0_pay7, k0_pay8, k0_pay9, k0_pay10]
  rcases (by omega : f.val < 12 ∨ (12 ≤ f.val ∧ f.val < 60) ∨ 60 ≤ f.val) with h | h | h <;> simp (disch := omega) only [dif_pos, dif_neg]
  all_goals exact at2 _ (by dsimp only <;> omega) (by dsimp only <;> omega)

set_option maxHeartbeats 2000000 in
/-- A row of the padded decoder matrix in the third head: the head's weights at the features it decodes, zero elsewhere. -/
theorem dec_3 (i : Fin 6) (f : Fin 205) : wout x5 x6 x7 x8 (ix2 (⟨10 + i.val, by omega⟩ : Fin 20) f)
    = if h : 9 ≤ f.val ∧ f.val < 12 then x7 (ix2 i (⟨f.val - 9, by omega⟩ : Fin 132))
      else if h : 75 ≤ f.val ∧ f.val < 138 then x7 (ix2 i (⟨f.val - 72, by omega⟩ : Fin 132))
      else if h : 139 ≤ f.val then x7 (ix2 i (⟨f.val - 73, by omega⟩ : Fin 132)) else 0 := by
  pointwise [k0_pay11, k0_pay6, k0_pay7, k0_pay8, k0_pay9, k0_pay10]
  rcases (by omega : f.val < 9 ∨ (9 ≤ f.val ∧ f.val < 12) ∨ (12 ≤ f.val ∧ f.val < 75) ∨ (75 ≤ f.val ∧ f.val < 138) ∨ f.val = 138 ∨ (139 ≤ f.val ∧ f.val < 142) ∨ 142 ≤ f.val) with h | h | h | h | h | h | h <;> simp (disch := omega) only [dif_pos, dif_neg]
  all_goals exact at2 _ (by dsimp only <;> omega) (by dsimp only <;> omega)

set_option maxHeartbeats 2000000 in
/-- A row of the padded decoder matrix in the fourth head: the head's weights at the features it decodes, zero elsewhere. -/
theorem dec_4 (i : Fin 4) (f : Fin 205) : wout x5 x6 x7 x8 (ix2 (⟨16 + i.val, by omega⟩ : Fin 20) f)
    = if h : f.val < 9 then x8 (ix2 i (⟨f.val, by omega⟩ : Fin 10))
      else if h : f.val = 138 then x8 (ix2 i (⟨f.val - 129, by omega⟩ : Fin 10)) else 0 := by
  pointwise [k0_pay11, k0_pay6, k0_pay7, k0_pay8, k0_pay9, k0_pay10]
  rcases (by omega : f.val < 9 ∨ (9 ≤ f.val ∧ f.val < 138) ∨ f.val = 138 ∨ 139 ≤ f.val) with h | h | h | h <;> simp (disch := omega) only [dif_pos, dif_neg]
  all_goals exact at2 _ (by dsimp only <;> omega) (by dsimp only <;> omega)

/-- A padded column against the twenty latents is the decoder: every feature has weights in one head only. -/
theorem decoded (f : Fin 205) (q : Fin 20 → EReal) :
    (∑ k, wout x5 x6 x7 x8 (ix2 k f) * q k)
      = decode (fun i => q ⟨i.val, by omega⟩) (fun i => q ⟨5 + i.val, by omega⟩) (fun i => q ⟨10 + i.val, by omega⟩)
          (fun i => q ⟨16 + i.val, by omega⟩) x5 x6 x7 x8 f := by
  rw [sum_heads]
  simp only [dec_1, dec_2, dec_3, dec_4]
  unfold decode
  rcases (by omega : f.val < 9 ∨ (9 ≤ f.val ∧ f.val < 12) ∨ (12 ≤ f.val ∧ f.val < 60) ∨ (60 ≤ f.val ∧ f.val < 75) ∨ (75 ≤ f.val ∧ f.val < 138)
      ∨ f.val = 138 ∨ 139 ≤ f.val) with h | h | h | h | h | h | h <;>
    simp (disch := omega) only [dif_pos, dif_neg, zero_mul, Finset.sum_const_zero, zero_add, add_zero]
  all_goals exact Finset.sum_congr rfl fun i _ => mul_comm _ _

end Decoder

end Cert.KWeights

end
-- ==== Proof.KVal.lean ====
module

public import proofs.«01_k».proof.Proof.KArr
public import proofs.«01_k».proof.Proof.KWeights

@[expose] public section

set_option maxRecDepth 16384

noncomputable section

namespace Cert.KVal

open Cert.KernelIdeal Cert.KernelIdeal.Gen Idealize.ShloMosaic Idealize.ShloMosaic.TcCoe Idealize.SL.Sem
open Cert.Latent Cert.KBody Cert.KAsm Cert.KArr Cert.KWeights

variable (m : (ℓ : Loc nD τ sig) → Buf (Elt Ideal) ℓ)

/-! ## The arrays the launch reads, as the lines before it leave them -/

/-- The input at row `j`, time `t`: feature `j / 16` of batch `j % 16`. -/
theorem V_x (c : Dev nD) (j : Fin 3280) (t : Fin 2048) :
    V m c main_v1 (ix2 j t) = m ((c.tc : Thread nD τ).loc main_arg0) (ix3 (⟨j.val % 16, by omega⟩ : Fin 16) t (⟨j.val / 16, by omega⟩ : Fin 205)) := by
  show StableHlo.after [hostOps0].flatten (fun b => m (c, b)) (Proc.tc.devRef main_v1) (ix2 j t) = _
  simp only [hostOps0, List.flatten_cons, List.flatten_nil, List.append_nil]
  after_results
  show shapeCast S3280x2048 (transpose S205x16x2048 [2, 0, 1] (m (c, Proc.tc.devRef main_arg0))
              transposes_S16x2048x205_S205x16x2048_2_0_1) shapeCasts_S205x16x2048_S3280x2048 (ix2 j t) = _
  pointwise []

/-- The encoder weight 1 of the launch is the argument's transpose. -/
theorem V_w1 (c : Dev nD) (r : Fin 5) (k : Fin 63) :
    V m c main_v2 (ix2 r k) = m ((c.tc : Thread nD τ).loc main_arg1) (ix2 k r) := by
  show StableHlo.after [hostOps0].flatten (fun b => m (c, b)) (Proc.tc.devRef main_v2) (ix2 r k) = _
  simp only [hostOps0, List.flatten_cons, List.flatten_nil, List.append_nil]
  after_results
  pointwise []

/-- The encoder weight 2 of the launch is the argument's transpose. -/
theorem V_w2 (c : Dev nD) (r : Fin 5) (k : Fin 63) :
    V m c main_v3 (ix2 r k) = m ((c.tc : Thread nD τ).loc main_arg2) (ix2 k r) := by
  show StableHlo.after [hostOps0].flatten (fun b => m (c, b)) (Proc.tc.devRef main_v3) (ix2 r k) = _
  simp only [hostOps0, List.flatten_cons, List.flatten_nil, List.append_nil]
  after_results
  pointwise []

/-- The encoder weight 3 of the launch is the argument's transpose. -/
theorem V_w3 (c : Dev nD) (r : Fin 6) (k : Fin 130) :
    V m c main_v4 (ix2 r k) = m ((c.tc : Thread nD τ).loc main_arg3) (ix2 k r) := by
  show StableHlo.after [hostOps0].flatten (fun b => m (c, b)) (Proc.tc.devRef main_v4) (ix2 r k) = _
  simp only [hostOps0, List.flatten_cons, List.flatten_nil, List.append_nil]
  after_results
  pointwise []

/-- The encoder weight 4 of the launch is the argument's transpose. -/
theorem V_w4 (c : Dev nD) (r : Fin 4) (k : Fin 12) :
    V m c main_v5 (ix2 r k) = m ((c.tc : Thread nD τ).loc main_arg4) (ix2 k r) := by
  show StableHlo.after [hostOps0].flatten (fun b => m (c, b)) (Proc.tc.devRef main_v5) (ix2 r k) = _
  simp only [hostOps0, List.flatten_cons, List.flatten_nil, List.append_nil]
  after_results
  pointwise []

/-- The decoder weight 1 of the launch is the argument. -/
theorem V_w5 (c : Dev nD) : V m c main_arg5 = m ((c.tc : Thread nD τ).loc main_arg5) := by
  show StableHlo.after [hostOps0].flatten (fun b => m (c, b)) (Proc.tc.devRef main_arg5) = _
  simp only [hostOps0, List.flatten_cons, List.flatten_nil, List.append_nil]
  after_results

/-- The decoder weight 2 of the launch is the argument. -/
theorem V_w6 (c : Dev nD) : V m c main_arg6 = m ((c.tc : Thread nD τ).loc main_arg6) := by
  show StableHlo.after [hostOps0].flatten (fun b => m (c, b)) (Proc.tc.devRef main_arg6) = _
  simp only [hostOps0, List.flatten_cons, List.flatten_nil, List.append_nil]
  after_results

/-- The decoder weight 3 of the launch is the argument. -/
theorem V_w7 (c : Dev nD) : V m c main_arg7 = m ((c.tc : Thread nD τ).loc main_arg7) := by
  show StableHlo.after [hostOps0].flatten (fun b => m (c, b)) (Proc.tc.devRef main_arg7) = _
  simp only [hostOps0, List.flatten_cons, List.flatten_nil, List.append_nil]
  after_results

/-- The decoder weight 4 of the launch is the argument. -/
theorem V_w8 (c : Dev nD) : V m c main_arg8 = m ((c.tc : Thread nD τ).loc main_arg8) := by
  show StableHlo.after [hostOps0].flatten (fun b => m (c, b)) (Proc.tc.devRef main_arg8) = _
  simp only [hostOps0, List.flatten_cons, List.flatten_nil, List.append_nil]
  after_results

/-! ## The literal tables of the launch -/

/-- The bits of the table of half widths. -/
theorem half_bits : ∀ k : Fin 20, lit0 (S20x1.rowMajor (ix2 k 0))
    = if k.val < 10 then 0x40600000#32 else if k.val < 16 then 0x40000000#32 else 0x40400000#32 := by decide +kernel

/-- The half widths: 3.5 for the ten channels of 8 levels, 2 for the six of 5, 3 for the four of 7. -/
theorem V_half (c : Dev nD) (k : Fin 20) : V m c main_cst (ix2 k 0)
    = (((if k.val < 10 then 3.5 else if k.val < 16 then 2 else 3 : ℝ)) : EReal) := by
  have e : V m c main_cst (ix2 k 0) = Ideal.ofBits .f32 (lit0 (S20x1.rowMajor (ix2 k 0))) := by
    show StableHlo.after [hostOps0].flatten (fun b => m (c, b)) (Proc.tc.devRef main_cst) (ix2 k 0) = _
    simp only [hostOps0, List.flatten_cons, List.flatten_nil, List.append_nil]
    after_results
    rfl
  rw [e, half_bits]
  split_ifs
  · exact lit_3_5
  · exact lit_2
  · exact lit_3

/-- The power of a channel in the code of its head, zero in the other heads. -/
def pow (h : Fin 4) (k : Fin 20) : ℕ :=
  if h.val = 0 ∧ k.val < 5 then 8 ^ k.val
  else if h.val = 1 ∧ 5 ≤ k.val ∧ k.val < 10 then 8 ^ (k.val - 5)
  else if h.val = 2 ∧ 10 ≤ k.val ∧ k.val < 16 then 5 ^ (k.val - 10)
  else if h.val = 3 ∧ 16 ≤ k.val then 7 ^ (k.val - 16)
  else 0

/-- The constant of a head: its offset plus the half width, rounded down, in every channel. -/
def base (h : Fin 4) : ℕ := if h.val = 0 then 14043 else if h.val = 1 then 46811 else if h.val = 2 then 73348 else 82361

/-- The bits of a natural number below 2 ^ 24 as a float of 32 bits. -/
def natBits (n : ℕ) : BitVec 32 :=
  if n = 0 then 0#32 else BitVec.ofNat 32 ((127 + Nat.log2 n) * 2 ^ 23 + (n * 2 ^ (23 - Nat.log2 n) - 2 ^ 23))

/-- The bits of the table of powers. -/
theorem pow_bits : ∀ (h : Fin 4) (k : Fin 20), lit1 (S4x20.rowMajor (ix2 h k)) = natBits (pow h k) := by decide +kernel
/-- The bits of the table of constants. -/
theorem base_bits : ∀ h : Fin 4, lit2 (S4x1.rowMajor (ix2 h 0)) = natBits (base h) := by decide +kernel

/-- The float of 0, read as an extended real, is that integer. -/
theorem val_0 : Ideal.ofBits .f32 (natBits 0) = ((((0 : ℕ) : ℤ) : ℝ) : EReal) := by
  rw [show natBits 0 = 0x00000000#32 from by decide]
  simp [Ideal.ofBits, Ideal.ieee]
/-- The float of 1, read as an extended real, is that integer. -/
theorem val_1 : Ideal.ofBits .f32 (natBits 1) = ((((1 : ℕ) : ℤ) : ℝ) : EReal) := by
  rw [show natBits 1 = 0x3F800000#32 from by decide +kernel]
  simp [Ideal.ofBits, Ideal.ieee, -EReal.coe_mul]; norm_num
/-- The float of 5, read as an extended real, is that integer. -/
theorem val_5 : Ideal.ofBits .f32 (natBits 5) = ((((5 : ℕ) : ℤ) : ℝ) : EReal) := by
  rw [show natBits 5 = 0x40A00000#32 from by decide +kernel]
  simp [Ideal.ofBits, Ideal.ieee, -EReal.coe_mul]; norm_num
/-- The float of 7, read as an extended real, is that integer. -/
theorem val_7 : Ideal.ofBits .f32 (natBits 7) = ((((7 : ℕ) : ℤ) : ℝ) : EReal) := by
  rw [show natBits 7 = 0x40E00000#32 from by decide +kernel]
  simp [Ideal.ofBits, Ideal.ieee, -EReal.coe_mul]; norm_num
/-- The float of 8, read as an extended real, is that integer. -/
theorem val_8 : Ideal.ofBits .f32 (natBits 8) = ((((8 : ℕ) : ℤ) : ℝ) : EReal) := by
  rw [show natBits 8 = 0x41000000#32 from by decide +kernel]
  simp [Ideal.ofBits, Ideal.ieee, -EReal.coe_mul]; norm_num
/-- The float of 25, read as an extended real, is that integer. -/
theorem val_25 : Ideal.ofBits .f32 (natBits 25) = ((((25 : ℕ) : ℤ) : ℝ) : EReal) := by
  rw [show natBits 25 = 0x41C80000#32 from by decide +kernel]
  simp [Ideal.ofBits, Ideal.ieee, -EReal.coe_mul]; norm_num
/-- The float of 49, read as an extended real, is that integer. -/
theorem val_49 : Ideal.ofBits .f32 (natBits 49) = ((((49 : ℕ) : ℤ) : ℝ) : EReal) := by
  rw [show natBits 49 = 0x42440000#32 from by decide +kernel]
  simp [Ideal.ofBits, Ideal.ieee, -EReal.coe_mul]; norm_num
/-- The float of 64, read as an extended real, is that integer. -/
theorem val_64 : Ideal.ofBits .f32 (natBits 64) = ((((64 : ℕ) : ℤ) : ℝ) : EReal) := by
  rw [show natBits 64 = 0x42800000#32 from by decide +kernel]
  simp [Ideal.ofBits, Ideal.ieee, -EReal.coe_mul]; norm_num
/-- The float of 125, read as an extended real, is that integer. -/
theorem val_125 : Ideal.ofBits .f32 (natBits 125) = ((((125 : ℕ) : ℤ) : ℝ) : EReal) := by
  rw [show natBits 125 = 0x42FA0000#32 from by decide +kernel]
  simp [Ideal.ofBits, Ideal.ieee, -EReal.coe_mul]; norm_num
/-- The float of 343, read as an extended real, is that integer. -/
theorem val_343 : Ideal.ofBits .f32 (natBits 343) = ((((343 : ℕ) : ℤ) : ℝ) : EReal) := by
  rw [show natBits 343 = 0x43AB8000#32 from by decide +kernel]
  simp [Ideal.ofBits, Ideal.ieee, -EReal.coe_mul]; norm_num
/-- The float of 512, read as an extended real, is that integer. -/
theorem val_512 : Ideal.ofBits .f32 (natBits 512) = ((((512 : ℕ) : ℤ) : ℝ) : EReal) := by
  rw [show natBits 512 = 0x44000000#32 from by decide +kernel]
  simp [Ideal.ofBits, Ideal.ieee, -EReal.coe_mul]; norm_num
/-- The float of 625, read as an extended real, is that integer. -/
theorem val_625 : Ideal.ofBits .f32 (natBits 625) = ((((625 : ℕ) : ℤ) : ℝ) : EReal) := by
  rw [show natBits 625 = 0x441C4000#32 from by decide +kernel]
  simp [Ideal.ofBits, Ideal.ieee, -EReal.coe_mul]; norm_num
/-- The float of 3125, read as an extended real, is that integer. -/
theorem val_3125 : Ideal.ofBits .f32 (natBits 3125) = ((((3125 : ℕ) : ℤ) : ℝ) : EReal) := by
  rw [show natBits 3125 = 0x45435000#32 from by decide +kernel]
  simp [Ideal.ofBits, Ideal.ieee, -EReal.coe_mul]; norm_num
/-- The float of 4096, read as an extended real, is that integer. -/
theorem val_4096 : Ideal.ofBits .f32 (natBits 4096) = ((((4096 : ℕ) : ℤ) : ℝ) : EReal) := by
  rw [show natBits 4096 = 0x45800000#32 from by decide +kernel]
  simp [Ideal.ofBits, Ideal.ieee, -EReal.coe_mul]; norm_num
/-- The float of 14043, read as an extended real, is that integer. -/
theorem val_14043 : Ideal.ofBits .f32 (natBits 14043) = ((((14043 : ℕ) : ℤ) : ℝ) : EReal) := by
  rw [show natBits 14043 = 0x465B6C00#32 from by decide +kernel]
  simp [Ideal.ofBits, Ideal.ieee, -EReal.coe_mul]; norm_num
/-- The float of 46811, read as an extended real, is that integer. -/
theorem val_46811 : Ideal.ofBits .f32 (natBits 46811) = ((((46811 : ℕ) : ℤ) : ℝ) : EReal) := by
  rw [show natBits 46811 = 0x4736DB00#32 from by decide +kernel]
  simp [Ideal.ofBits, Ideal.ieee, -EReal.coe_mul]; norm_num
/-- The float of 73348, read as an extended real, is that integer. -/
theorem val_73348 : Ideal.ofBits .f32 (natBits 73348) = ((((73348 : ℕ) : ℤ) : ℝ) : EReal) := by
  rw [show natBits 73348 = 0x478F4200#32 from by decide +kernel]
  simp [Ideal.ofBits, Ideal.ieee, -EReal.coe_mul]; norm_num
/-- The float of 82361, read as an extended real, is that integer. -/
theorem val_82361 : Ideal.ofBits .f32 (natBits 82361) = ((((82361 : ℕ) : ℤ) : ℝ) : EReal) := by
  rw [show natBits 82361 = 0x47A0DC80#32 from by decide +kernel]
  simp [Ideal.ofBits, Ideal.ieee, -EReal.coe_mul]; norm_num

/-- Every entry of the table of powers is one of these numbers. -/
theorem pow_cases : ∀ (h : Fin 4) (k : Fin 20), pow h k = 0 ∨ pow h k = 1 ∨ pow h k = 5 ∨ pow h k = 7 ∨ pow h k = 8 ∨ pow h k = 25 ∨ pow h k = 49 ∨ pow h k = 64 ∨ pow h k = 125 ∨ pow h k = 343 ∨ pow h k = 512 ∨ pow h k = 625 ∨ pow h k = 3125 ∨ pow h k = 4096 := by decide +kernel

/-- The table of powers, as integers. -/
theorem V_pow (c : Dev nD) (h : Fin 4) (k : Fin 20) : V m c main_cst_0 (ix2 h k) = ((((pow h k : ℕ) : ℤ) : ℝ) : EReal) := by
  have e : V m c main_cst_0 (ix2 h k) = Ideal.ofBits .f32 (lit1 (S4x20.rowMajor (ix2 h k))) := by
    show StableHlo.after [hostOps0].flatten (fun b => m (c, b)) (Proc.tc.devRef main_cst_0) (ix2 h k) = _
    simp only [hostOps0, List.flatten_cons, List.flatten_nil, List.append_nil]
    after_results
    rfl
  rw [e, pow_bits]
  rcases pow_cases h k with h | h | h | h | h | h | h | h | h | h | h | h | h | h <;> rw [h]
  · exact val_0
  · exact val_1
  · exact val_5
  · exact val_7
  · exact val_8
  · exact val_25
  · exact val_49
  · exact val_64
  · exact val_125
  · exact val_343
  · exact val_512
  · exact val_625
  · exact val_3125
  · exact val_4096

/-- The table of constants, as integers. -/
theorem V_base (c : Dev nD) (h : Fin 4) : V m c main_cst_1 (ix2 h 0) = ((((base h : ℕ) : ℤ) : ℝ) : EReal) := by
  have e : V m c main_cst_1 (ix2 h 0) = Ideal.ofBits .f32 (lit2 (S4x1.rowMajor (ix2 h 0))) := by
    show StableHlo.after [hostOps0].flatten (fun b => m (c, b)) (Proc.tc.devRef main_cst_1) (ix2 h 0) = _
    simp only [hostOps0, List.flatten_cons, List.flatten_nil, List.append_nil]
    after_results
    rfl
  rw [e, base_bits]
  unfold base
  split_ifs
  · exact val_14043
  · exact val_46811
  · exact val_73348
  · exact val_82361

/-! ## The latents -/

/-- The kernel's latent of channel `k`, batch `b`, time `t`. -/
abbrev qk (c : Dev nD) (b : Fin 16) (t : Fin 2048) (k : Fin 20) : EReal :=
  qmat (wa m c) (hw m c) (V m c main_v1) (⟨16 * k.val + b.val, by omega⟩ : Fin 320) t

/-- Row `16 k + b` belongs to batch `b`. -/
theorem batch (b : Fin 16) (k : ℕ) : (16 * k + b.val) % 16 = b.val := by omega

/-- The kernel's latent is the quantiser on the padded encoder row against the features of `b` and `t`. -/
theorem qk_eq (c : Dev nD) (b : Fin 16) (t : Fin 2048) (k : Fin 20) :
    qk m c b t k = lat (((if k.val < 10 then 3.5 else if k.val < 16 then 2 else 3 : ℝ)) : EReal)
      (∑ f, k0_pay5 (V m c main_v2) (V m c main_v3) (V m c main_v4) (V m c main_v5) (ix2 k f)
        * m ((c.tc : Thread nD τ).loc main_arg0) (ix3 b t f)) := by
  have hk : (⟨(16 * k.val + b.val) / 16, by omega⟩ : Fin 20) = k := Fin.ext (by dsimp only; omega)
  unfold qk qmat lat
  simp only [wa, hw, WA_apply, HALF_apply, batch, hk]
  rw [sum_batch (n := 205) (N := 3280) rfl b.val b.isLt
    (fun f => k0_pay5 (V m c main_v2) (V m c main_v3) (V m c main_v4) (V m c main_v5) (ix2 k f)) (fun j => V m c main_v1 (ix2 j t))]
  refine congrArg₂ (fun a z : EReal => Ideal.liftRound Ideal.roundHalfEven (a * Ideal.tanh z)) (V_half m c k) ?_
  refine Finset.sum_congr (M := EReal) rfl fun f _ => ?_
  have h1 : (⟨(16 * f.val + b.val) % 16, by omega⟩ : Fin 16) = b := Fin.ext (by dsimp only; omega)
  have h2 : (⟨(16 * f.val + b.val) / 16, by omega⟩ : Fin 205) = f := Fin.ext (by dsimp only; omega)
  refine congrArg (_ * ·) ((V_x m c _ t).trans ?_)
  rw [h1, h2]

/-- The kernel's latents of channels 0 to 4 are the quantised projections of the expression features by the first encoder weight. -/
theorem qk_1 (c : Dev nD) (b : Fin 16) (t : Fin 2048) (i : Fin 5) : qk m c b t ⟨i.val, by omega⟩
    = lat ((3.5 : ℝ) : EReal) (zExp (m ((c.tc : Thread nD τ).loc main_arg0)) (m ((c.tc : Thread nD τ).loc main_arg1)) b t i) := by
  rw [qk_eq, if_pos (by dsimp only; omega), proj_1]
  refine congrArg (lat _) (Finset.sum_congr (M := EReal) rfl fun f _ => congrArg (HMul.hMul (α := EReal) (β := EReal) (γ := EReal) _) (V_w1 m c i f))

/-- The kernel's latents of channels 5 to 9 are the quantised projections of the expression features by the second encoder weight. -/
theorem qk_2 (c : Dev nD) (b : Fin 16) (t : Fin 2048) (i : Fin 5) : qk m c b t ⟨5 + i.val, by omega⟩
    = lat ((3.5 : ℝ) : EReal) (zExp (m ((c.tc : Thread nD τ).loc main_arg0)) (m ((c.tc : Thread nD τ).loc main_arg2)) b t i) := by
  rw [qk_eq, if_pos (by dsimp only; omega), proj_2]
  refine congrArg (lat _) (Finset.sum_congr (M := EReal) rfl fun f _ => congrArg (HMul.hMul (α := EReal) (β := EReal) (γ := EReal) _) (V_w2 m c i f))

/-- The kernel's latents of channels 10 to 15 are the quantised projections of the remaining features. -/
theorem qk_3 (c : Dev nD) (b : Fin 16) (t : Fin 2048) (i : Fin 6) : qk m c b t ⟨10 + i.val, by omega⟩
    = lat ((2 : ℝ) : EReal) (zRest (m ((c.tc : Thread nD τ).loc main_arg0)) (m ((c.tc : Thread nD τ).loc main_arg3)) b t i) := by
  rw [qk_eq, if_neg (by dsimp only; omega), if_pos (by dsimp only; omega), proj_3]
  refine congrArg (lat _) (Finset.sum_congr (M := EReal) rfl fun f _ => congrArg (HMul.hMul (α := EReal) (β := EReal) (γ := EReal) _) (V_w3 m c i f))

/-- The kernel's latents of channels 16 to 19 are the quantised projections of the rotation features. -/
theorem qk_4 (c : Dev nD) (b : Fin 16) (t : Fin 2048) (i : Fin 4) : qk m c b t ⟨16 + i.val, by omega⟩
    = lat ((3 : ℝ) : EReal) (zRot (m ((c.tc : Thread nD τ).loc main_arg0)) (m ((c.tc : Thread nD τ).loc main_arg4)) b t i) := by
  rw [qk_eq, if_neg (by dsimp only; omega), if_neg (by dsimp only; omega), proj_4]
  refine congrArg (lat _) (Finset.sum_congr (M := EReal) rfl fun f _ => congrArg (HMul.hMul (α := EReal) (β := EReal) (γ := EReal) _) (V_w4 m c i f))

/-! ## The two results at an index -/

/-- The decoded output at feature `f`, batch `b`, time `t`: the decoder on the latents. -/
theorem G12_apply (c : Dev nD) (b : Fin 16) (t : Fin 2048) (f : Fin 205) :
    G12 m c (ix2 (⟨f.val * 16 + b.val, by omega⟩ : Fin 3280) t)
      = decode (fun i => qk m c b t ⟨i.val, by omega⟩) (fun i => qk m c b t ⟨5 + i.val, by omega⟩) (fun i => qk m c b t ⟨10 + i.val, by omega⟩)
          (fun i => qk m c b t ⟨16 + i.val, by omega⟩) (m ((c.tc : Thread nD τ).loc main_arg5)) (m ((c.tc : Thread nD τ).loc main_arg6))
          (m ((c.tc : Thread nD τ).loc main_arg7)) (m ((c.tc : Thread nD τ).loc main_arg8)) f := by
  have hb : (f.val * 16 + b.val) % 16 = b.val := by omega
  have hf : (⟨(f.val * 16 + b.val) / 16, by omega⟩ : Fin 205) = f := Fin.ext (by dsimp only; omega)
  show (∑ r : Fin 320, wo m c (ix2 (⟨f.val * 16 + b.val, by omega⟩ : Fin 3280) r) * qmat (wa m c) (hw m c) (V m c main_v1) r t) = _
  simp only [wo, WO_apply, hb, hf]
  rw [sum_batch (n := 20) (N := 320) rfl b.val b.isLt
    (fun k => wout (V m c main_arg5) (V m c main_arg6) (V m c main_arg7) (V m c main_arg8) (ix2 k f))
    (fun r => qmat (wa m c) (hw m c) (V m c main_v1) r t),
    decoded _ _ _ _ f (qk m c b t), V_w5, V_w6, V_w7, V_w8]

/-- The code of head `h`, batch `b`, time `t`: the latents against the powers, the constant added, converted to a word. -/
theorem G13_apply (c : Dev nD) (h : Fin 4) (b : Fin 16) (t : Fin 2048) :
    G13 m c (ix2 (⟨h.val * 16 + b.val, by omega⟩ : Fin 64) t)
      = Ideal.fptosi 32 ((∑ k : Fin 20, ((((pow h k : ℕ) : ℤ) : ℝ) : EReal) * qk m c b t k) + ((((base h : ℕ) : ℤ) : ℝ) : EReal)) := by
  have hb : (h.val * 16 + b.val) % 16 = b.val := by omega
  have hh : (⟨(h.val * 16 + b.val) / 16, by omega⟩ : Fin 4) = h := Fin.ext (by dsimp only; omega)
  show Ideal.fptosi 32 ((∑ r : Fin 320, pa m c (ix2 (⟨h.val * 16 + b.val, by omega⟩ : Fin 64) r) * qmat (wa m c) (hw m c) (V m c main_v1) r t)
    + ca m c (ix2 (⟨h.val * 16 + b.val, by omega⟩ : Fin 64) 0)) = _
  simp only [pa, ca, PA_apply, CA_apply, hb, hh]
  rw [sum_batch (n := 20) (N := 320) rfl b.val b.isLt (fun k => V m c main_cst_0 (ix2 h k)) (fun r => qmat (wa m c) (hw m c) (V m c main_v1) r t)]
  refine congrArg₂ (fun a z : EReal => Ideal.fptosi 32 (a + z)) ?_ (V_base m c h)
  exact Finset.sum_congr (M := EReal) rfl fun k _ => congrArg (· * _) (V_pow m c h k)

end Cert.KVal

end
-- ==== Proof.RCodes.lean ====
module

public import proofs.«01_k».proof.ReferenceIdeal
public import proofs.«01_k».proof.Proof.Gen.ReferenceIdeal
public import proofs.«01_k».proof.Proof.Gen.ReferenceIdeal.Run
public import proofs.«01_k».proof.Proof.Latent
public import Idealize.ShloMosaic.Lib.Tactic.CleanTypes

@[expose] public section

set_option maxRecDepth 16384

noncomputable section

namespace Cert.RCodes

open Cert.ReferenceIdeal Cert.ReferenceIdeal.Gen Cert.ReferenceIdeal.Value Idealize.ShloMosaic Idealize.ShloMosaic.TcCoe Idealize.SL.Sem
open Cert.Latent

/-- The global codes of a head of 5 channels of 8 levels that reads the expression features. -/
def codes8 (tab : IVec S5 32) (off : BitVec 32) (x : FVec Ideal S16x2048x205 .f32) (W : FVec Ideal S63x5 .f32) : IVec S16x2048 32 :=
  addi (Host.reduce IntOp.addi (muli (fptosi 32 (addf (Host.roundeven (mulf (broadcastInDim S16x2048x5 ![] bcast_S_S16x2048x5 (constant S_ .f32 0x40600000#32)) (Host.tanh (Host.dotGeneral dot_S16x2048x63_S63x5_S16x2048x5_2_0_01_1_n_n none (extractStridedSlice S16x2048x63 ![0, 0, 12] x slices_S16x2048x205_S16x2048x63_0_0_12) W)))) (broadcastInDim S16x2048x5 ![] bcast_S_S16x2048x5 (constant S_ .f32 0x40600000#32)))) (broadcastInDim S16x2048x5 ![0, 1, 2] bcast_S1x1x5_S16x2048x5_0_1_2 (broadcastInDim S1x1x5 ![2] bcast_S5_S1x1x5_2 tab))) (constantI S_ 32 0#32) reducesTo_S16x2048x5_S16x2048_d2 h_S_) (broadcastInDim S16x2048 ![] bcast_S_S16x2048 (constantI S_ 32 off))

/-- The global codes of the head of 6 channels of 5 levels. -/
def codes5 (tab : IVec S6 32) (off : BitVec 32) (x : FVec Ideal S16x2048x205 .f32) (W : FVec Ideal S130x6 .f32) : IVec S16x2048 32 :=
  addi (Host.reduce IntOp.addi (muli (fptosi 32 (addf (Host.roundeven (mulf (broadcastInDim S16x2048x6 ![] bcast_S_S16x2048x6 (constant S_ .f32 0x40000000#32)) (Host.tanh (Host.dotGeneral dot_S16x2048x130_S130x6_S16x2048x6_2_0_01_1_n_n none (extractStridedSlice S16x2048x130 ![0, 0, 75] x slices_S16x2048x205_S16x2048x130_0_0_75) W)))) (broadcastInDim S16x2048x6 ![] bcast_S_S16x2048x6 (constant S_ .f32 0x40000000#32)))) (broadcastInDim S16x2048x6 ![0, 1, 2] bcast_S1x1x6_S16x2048x6_0_1_2 (broadcastInDim S1x1x6 ![2] bcast_S6_S1x1x6_2 tab))) (constantI S_ 32 0#32) reducesTo_S16x2048x6_S16x2048_d2 h_S_) (broadcastInDim S16x2048 ![] bcast_S_S16x2048 (constantI S_ 32 off))

/-- The global codes of the head of 4 channels of 7 levels. -/
def codes7 (tab : IVec S4 32) (off : BitVec 32) (x : FVec Ideal S16x2048x205 .f32) (W : FVec Ideal S12x4 .f32) : IVec S16x2048 32 :=
  addi (Host.reduce IntOp.addi (muli (fptosi 32 (addf (Host.roundeven (mulf (broadcastInDim S16x2048x4 ![] bcast_S_S16x2048x4 (constant S_ .f32 0x40400000#32)) (Host.tanh (Host.dotGeneral dot_S16x2048x12_S12x4_S16x2048x4_2_0_01_1_n_n none (extractStridedSlice S16x2048x12 ![0, 0, 0] x slices_S16x2048x205_S16x2048x12_0_0_0) W)))) (broadcastInDim S16x2048x4 ![] bcast_S_S16x2048x4 (constant S_ .f32 0x40400000#32)))) (broadcastInDim S16x2048x4 ![0, 1, 2] bcast_S1x1x4_S16x2048x4_0_1_2 (broadcastInDim S1x1x4 ![2] bcast_S4_S1x1x4_2 tab))) (constantI S_ 32 0#32) reducesTo_S16x2048x4_S16x2048_d2 h_S_) (broadcastInDim S16x2048 ![] bcast_S_S16x2048 (constantI S_ 32 off))

/-- The four heads' codes stacked. -/
def codesAll (x : FVec Ideal S16x2048x205 .f32) (W1 W2 : FVec Ideal S63x5 .f32) (W3 : FVec Ideal S130x6 .f32) (W4 : FVec Ideal S12x4 .f32) : IVec S4x16x2048 32 :=
  concatenate S4x16x2048 0
    [⟨S1x16x2048, broadcastInDim S1x16x2048 ![1, 2] bcast_S16x2048_S1x16x2048_1_2 (codes8 (fun i => lit0 (S5.rowMajor i)) 0#32 x W1)⟩,
     ⟨S1x16x2048, broadcastInDim S1x16x2048 ![1, 2] bcast_S16x2048_S1x16x2048_1_2 (codes8 (fun i => lit1 (S5.rowMajor i)) 32768#32 x W2)⟩,
     ⟨S1x16x2048, broadcastInDim S1x16x2048 ![1, 2] bcast_S16x2048_S1x16x2048_1_2 (codes5 (fun i => lit2 (S6.rowMajor i)) 65536#32 x W3)⟩,
     ⟨S1x16x2048, broadcastInDim S1x16x2048 ![1, 2] bcast_S16x2048_S1x16x2048_1_2 (codes7 (fun i => lit3 (S4.rowMajor i)) 81161#32 x W4)⟩]
    concatenates_S1x16x2048_S1x16x2048_S1x16x2048_S1x16x2048_S4x16x2048_d0

variable (x : FVec Ideal S16x2048x205 .f32) (W1 W2 : FVec Ideal S63x5 .f32) (W3 : FVec Ideal S130x6 .f32) (W4 : FVec Ideal S12x4 .f32)

/-- The codes' slab 0 is head 0's codes. -/
theorem codesAll_0 (b : Fin 16) (t : Fin 2048) :
    codesAll x W1 W2 W3 W4 (ix3 0 b t) = codes8 (fun i => lit0 (S5.rowMajor i)) 0#32 x W1 (ix2 b t) := by
  pointwise [codesAll]

/-- The codes' slab 1 is head 1's codes. -/
theorem codesAll_1 (b : Fin 16) (t : Fin 2048) :
    codesAll x W1 W2 W3 W4 (ix3 1 b t) = codes8 (fun i => lit1 (S5.rowMajor i)) 32768#32 x W2 (ix2 b t) := by
  pointwise [codesAll]

/-- The codes' slab 2 is head 2's codes. -/
theorem codesAll_2 (b : Fin 16) (t : Fin 2048) :
    codesAll x W1 W2 W3 W4 (ix3 2 b t) = codes5 (fun i => lit2 (S6.rowMajor i)) 65536#32 x W3 (ix2 b t) := by
  pointwise [codesAll]

/-- The codes' slab 3 is head 3's codes. -/
theorem codesAll_3 (b : Fin 16) (t : Fin 2048) :
    codesAll x W1 W2 W3 W4 (ix3 3 b t) = codes7 (fun i => lit3 (S4.rowMajor i)) 81161#32 x W4 (ix2 b t) := by
  pointwise [codesAll]

/-- A head of 8 levels: the sum of its channels' levels, each the latent plus the half width rounded toward zero, weighted by the powers of 8. -/
theorem codes8_apply (tab : IVec S5 32) (off : BitVec 32) (W : FVec Ideal S63x5 .f32) (b : Fin 16) (t : Fin 2048) :
    codes8 tab off x W (ix2 b t) = IntOp.addi (Finset.fold IntOp.addi 0#32
      (fun i : Fin 5 => IntOp.muli (Ideal.fptosi 32 (lat ((3.5 : ℝ) : EReal) (zExp x W b t i) + ((3.5 : ℝ) : EReal))) (tab (ix1 i)))
      Finset.univ) off := by
  unfold codes8
  simp only [Host.reduce_eq_fold]
  pointwise []
  simp only [lit_3_5]
  rfl

/-- The same in integers. -/
theorem codes8_int (tab : IVec S5 32) (off : ℤ) (W : FVec Ideal S63x5 .f32) (b : Fin 16) (t : Fin 2048)
    (htab : ∀ i : Fin 5, tab (ix1 i) = BitVec.ofInt 32 (8 ^ i.val)) (n : Fin 5 → ℤ)
    (hn : ∀ i, lat ((3.5 : ℝ) : EReal) (zExp x W b t i) = (((n i : ℤ) : ℝ) : EReal)) (hb : ∀ i, -3 ≤ n i ∧ n i ≤ 4) :
    codes8 tab (BitVec.ofInt 32 off) x W (ix2 b t) = BitVec.ofInt 32 ((∑ i, (n i + 3) * 8 ^ i.val) + off) := by
  rw [codes8_apply, fold_words (a := fun i => (n i + 3) * 8 ^ i.val), BitVec.ofInt_add]
  · rfl
  · intro i
    obtain ⟨h1, h2⟩ := hb i
    have e : Ideal.fptosi 32 (lat ((3.5 : ℝ) : EReal) (zExp x W b t i) + ((3.5 : ℝ) : EReal)) = BitVec.ofInt 32 (n i + 3) := by
      rw [hn i, ← EReal.coe_add]
      rw [← word_half (n i + 3) (by omega) (by omega)]
      congr 2; push_cast; ring
    rw [e, htab, BitVec.ofInt_mul]
    rfl

/-- A head of 5 levels: the sum of its channels' levels, each the latent plus the half width rounded toward zero, weighted by the powers of 5. -/
theorem codes5_apply (tab : IVec S6 32) (off : BitVec 32) (W : FVec Ideal S130x6 .f32) (b : Fin 16) (t : Fin 2048) :
    codes5 tab off x W (ix2 b t) = IntOp.addi (Finset.fold IntOp.addi 0#32
      (fun i : Fin 6 => IntOp.muli (Ideal.fptosi 32 (lat ((2 : ℝ) : EReal) (zRest x W b t i) + ((2 : ℝ) : EReal))) (tab (ix1 i)))
      Finset.univ) off := by
  unfold codes5
  simp only [Host.reduce_eq_fold]
  pointwise []
  simp only [lit_2]
  rfl

/-- The same in integers. -/
theorem codes5_int (tab : IVec S6 32) (off : ℤ) (W : FVec Ideal S130x6 .f32) (b : Fin 16) (t : Fin 2048)
    (htab : ∀ i : Fin 6, tab (ix1 i) = BitVec.ofInt 32 (5 ^ i.val)) (n : Fin 6 → ℤ)
    (hn : ∀ i, lat ((2 : ℝ) : EReal) (zRest x W b t i) = (((n i : ℤ) : ℝ) : EReal)) (hb : ∀ i, -3 ≤ n i ∧ n i ≤ 4) :
    codes5 tab (BitVec.ofInt 32 off) x W (ix2 b t) = BitVec.ofInt 32 ((∑ i, (n i + 2) * 5 ^ i.val) + off) := by
  rw [codes5_apply, fold_words (a := fun i => (n i + 2) * 5 ^ i.val), BitVec.ofInt_add]
  · rfl
  · intro i
    obtain ⟨h1, h2⟩ := hb i
    have e : Ideal.fptosi 32 (lat ((2 : ℝ) : EReal) (zRest x W b t i) + ((2 : ℝ) : EReal)) = BitVec.ofInt 32 (n i + 2) := by
      rw [hn i, ← EReal.coe_add]
      rw [← word_int (n i + 2) (by omega) (by omega)]
      congr 2; push_cast; ring
    rw [e, htab, BitVec.ofInt_mul]
    rfl

/-- A head of 7 levels: the sum of its channels' levels, each the latent plus the half width rounded toward zero, weighted by the powers of 7. -/
theorem codes7_apply (tab : IVec S4 32) (off : BitVec 32) (W : FVec Ideal S12x4 .f32) (b : Fin 16) (t : Fin 2048) :
    codes7 tab off x W (ix2 b t) = IntOp.addi (Finset.fold IntOp.addi 0#32
      (fun i : Fin 4 => IntOp.muli (Ideal.fptosi 32 (lat ((3 : ℝ) : EReal) (zRot x W b t i) + ((3 : ℝ) : EReal))) (tab (ix1 i)))
      Finset.univ) off := by
  unfold codes7
  simp only [Host.reduce_eq_fold]
  pointwise []
  simp only [lit_3]
  rfl

/-- The same in integers. -/
theorem codes7_int (tab : IVec S4 32) (off : ℤ) (W : FVec Ideal S12x4 .f32) (b : Fin 16) (t : Fin 2048)
    (htab : ∀ i : Fin 4, tab (ix1 i) = BitVec.ofInt 32 (7 ^ i.val)) (n : Fin 4 → ℤ)
    (hn : ∀ i, lat ((3 : ℝ) : EReal) (zRot x W b t i) = (((n i : ℤ) : ℝ) : EReal)) (hb : ∀ i, -3 ≤ n i ∧ n i ≤ 4) :
    codes7 tab (BitVec.ofInt 32 off) x W (ix2 b t) = BitVec.ofInt 32 ((∑ i, (n i + 3) * 7 ^ i.val) + off) := by
  rw [codes7_apply, fold_words (a := fun i => (n i + 3) * 7 ^ i.val), BitVec.ofInt_add]
  · rfl
  · intro i
    obtain ⟨h1, h2⟩ := hb i
    have e : Ideal.fptosi 32 (lat ((3 : ℝ) : EReal) (zRot x W b t i) + ((3 : ℝ) : EReal)) = BitVec.ofInt 32 (n i + 3) := by
      rw [hn i, ← EReal.coe_add]
      rw [← word_int (n i + 3) (by omega) (by omega)]
      congr 2; push_cast; ring
    rw [e, htab, BitVec.ofInt_mul]
    rfl

/-- Head 0's table of powers: the powers of 8. -/
theorem tab0 : ∀ i : Fin 5, lit0 (S5.rowMajor (ix1 i)) = BitVec.ofInt 32 (8 ^ i.val) := by decide +kernel
/-- Head 1's table of powers: the powers of 8. -/
theorem tab1 : ∀ i : Fin 5, lit1 (S5.rowMajor (ix1 i)) = BitVec.ofInt 32 (8 ^ i.val) := by decide +kernel
/-- Head 2's table of powers: the powers of 5. -/
theorem tab2 : ∀ i : Fin 6, lit2 (S6.rowMajor (ix1 i)) = BitVec.ofInt 32 (5 ^ i.val) := by decide +kernel
/-- Head 3's table of powers: the powers of 7. -/
theorem tab3 : ∀ i : Fin 4, lit3 (S4.rowMajor (ix1 i)) = BitVec.ofInt 32 (7 ^ i.val) := by decide +kernel

end Cert.RCodes

end
-- ==== Proof.Equation.lean ====
module

public import proofs.«01_k».proof.Proof.KVal
public import proofs.«01_k».proof.Proof.RCodes

@[expose] public section

set_option maxRecDepth 16384

noncomputable section

namespace Cert.Equation

open Idealize.ShloMosaic Idealize.ShloMosaic.TcCoe Idealize.SL.Sem
open Cert.KernelIdeal Cert.KernelIdeal.Gen Cert.Latent Cert.KArr Cert.KVal

variable (m : (ℓ : Loc nD τ sig) → Buf (Elt Ideal) ℓ)

/-- The kernel's code as a word of an integer, where the latents are integers from -3 to 4. -/
theorem kernel_int (c : Dev nD) (h : Fin 4) (b : Fin 16) (t : Fin 2048) (n : Fin 20 → ℤ) (hn : ∀ k, qk m c b t k = (((n k : ℤ) : ℝ) : EReal))
    (h1 : -2147483648 ≤ (∑ k, (pow h k : ℤ) * n k) + (base h : ℤ)) (h2 : (∑ k, (pow h k : ℤ) * n k) + (base h : ℤ) ≤ 2147483647) :
    G13 m c (ix2 (⟨h.val * 16 + b.val, by omega⟩ : Fin 64) t) = BitVec.ofInt 32 ((∑ k, (pow h k : ℤ) * n k) + (base h : ℤ)) := by
  rw [G13_apply, ← word_int _ h1 h2]
  refine congrArg (Ideal.fptosi 32) ?_
  simp only [hn]
  rw [Int.cast_add, EReal.coe_add, Int.cast_sum, coe_sum]
  simp only [Int.cast_mul, EReal.coe_mul]

/-- Every latent of the kernel is an integer from -3 to 4, where the projections of the two heads of 8 levels are finite. -/
theorem latents_int (c : Dev nD) (b : Fin 16) (t : Fin 2048)
    (z1 : ∀ i, ∃ r : ℝ, zExp (m ((c.tc : Thread nD τ).loc main_arg0)) (m ((c.tc : Thread nD τ).loc main_arg1)) b t i = (r : EReal))
    (z2 : ∀ i, ∃ r : ℝ, zExp (m ((c.tc : Thread nD τ).loc main_arg0)) (m ((c.tc : Thread nD τ).loc main_arg2)) b t i = (r : EReal))
    (k : Fin 20) : IsInt (-3) 4 (qk m c b t k) := by
  rcases (by omega : k.val < 5 ∨ (5 ≤ k.val ∧ k.val < 10) ∨ (10 ≤ k.val ∧ k.val < 16) ∨ 16 ≤ k.val) with h | h | h | h
  · have e := qk_1 m c b t ⟨k.val, h⟩
    obtain ⟨r, hr⟩ := z1 ⟨k.val, h⟩
    rw [hr] at e
    exact e ▸ lat_3_5 r
  · have e := qk_2 m c b t ⟨k.val - 5, by omega⟩
    obtain ⟨r, hr⟩ := z2 ⟨k.val - 5, by omega⟩
    rw [hr] at e
    have hk : (⟨5 + (k.val - 5), by omega⟩ : Fin 20) = k := Fin.ext (by dsimp only; omega)
    rw [hk] at e
    exact e ▸ lat_3_5 r
  · have e := qk_3 m c b t ⟨k.val - 10, by omega⟩
    have hk : (⟨10 + (k.val - 10), by omega⟩ : Fin 20) = k := Fin.ext (by dsimp only; omega)
    rw [hk] at e
    exact e ▸ (lat_2 _).wider (by omega) (by omega)
  · have e := qk_4 m c b t ⟨k.val - 16, by omega⟩
    have hk : (⟨16 + (k.val - 16), by omega⟩ : Fin 20) = k := Fin.ext (by dsimp only; omega)
    rw [hk] at e
    exact e ▸ (lat_3 _).wider (by omega) (by omega)

/-- The codes of the reference, on the kernel's arguments, are the kernel's, where the projections of the two heads of 8 levels
    are finite. -/
theorem codes_eq (c : Dev nD) (h : Fin 4) (b : Fin 16) (t : Fin 2048)
    (z1 : ∀ i, ∃ r : ℝ, zExp (m ((c.tc : Thread nD τ).loc main_arg0)) (m ((c.tc : Thread nD τ).loc main_arg1)) b t i = (r : EReal))
    (z2 : ∀ i, ∃ r : ℝ, zExp (m ((c.tc : Thread nD τ).loc main_arg0)) (m ((c.tc : Thread nD τ).loc main_arg2)) b t i = (r : EReal)) :
    Cert.RCodes.codesAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix3 h b t)
      = G13 m c (ix2 (⟨h.val * 16 + b.val, by omega⟩ : Fin 64) t) := by
  have hq := latents_int m c b t z1 z2
  choose n hn hb using hq
  have b0 := hb 0; have b1 := hb 1; have b2 := hb 2; have b3 := hb 3; have b4 := hb 4; have b5 := hb 5; have b6 := hb 6
  have b7 := hb 7; have b8 := hb 8; have b9 := hb 9; have b10 := hb 10; have b11 := hb 11; have b12 := hb 12; have b13 := hb 13
  have b14 := hb 14; have b15 := hb 15; have b16 := hb 16; have b17 := hb 17; have b18 := hb 18; have b19 := hb 19
  have s0 : (∑ k, (pow 0 k : ℤ) * n k) = n 0 + 8 * n 1 + 64 * n 2 + 512 * n 3 + 4096 * n 4 := by
    simp [Fin.sum_univ_succ, pow]
    ring
  have s1 : (∑ k, (pow 1 k : ℤ) * n k) = n 5 + 8 * n 6 + 64 * n 7 + 512 * n 8 + 4096 * n 9 := by
    simp [Fin.sum_univ_succ, pow]
    ring
  have s2 : (∑ k, (pow 2 k : ℤ) * n k) = n 10 + 5 * n 11 + 25 * n 12 + 125 * n 13 + 625 * n 14 + 3125 * n 15 := by
    simp [Fin.sum_univ_succ, pow]
    ring
  have s3 : (∑ k, (pow 3 k : ℤ) * n k) = n 16 + 7 * n 17 + 49 * n 18 + 343 * n 19 := by
    simp [Fin.sum_univ_succ, pow]
    ring
  have hh : ∀ h : Fin 4, h = 0 ∨ h = 1 ∨ h = 2 ∨ h = 3 := by decide
  rcases hh h with rfl | rfl | rfl | rfl
  · have e : (base 0 : ℤ) = 14043 := rfl
    refine (Cert.RCodes.codesAll_0 _ _ _ _ _ b t).trans ?_
    refine (Cert.RCodes.codes8_int _ _ 0 _ b t Cert.RCodes.tab0 (fun i => n ⟨i.val, by omega⟩)
      (fun i => (qk_1 m c b t i).symm.trans (hn _)) (fun i => hb _)).trans ?_
    refine Eq.trans ?_ (kernel_int m c 0 b t n hn (by rw [s0, e]; omega) (by rw [s0, e]; omega)).symm
    rw [s0, e]
    simp [Fin.sum_univ_succ]
    congr 1
    ring
  · have e : (base 1 : ℤ) = 46811 := rfl
    refine (Cert.RCodes.codesAll_1 _ _ _ _ _ b t).trans ?_
    refine (Cert.RCodes.codes8_int _ _ 32768 _ b t Cert.RCodes.tab1 (fun i => n ⟨5 + i.val, by omega⟩)
      (fun i => (qk_2 m c b t i).symm.trans (hn _)) (fun i => hb _)).trans ?_
    refine Eq.trans ?_ (kernel_int m c 1 b t n hn (by rw [s1, e]; omega) (by rw [s1, e]; omega)).symm
    rw [s1, e]
    simp [Fin.sum_univ_succ]
    congr 1
    ring
  · have e : (base 2 : ℤ) = 73348 := rfl
    refine (Cert.RCodes.codesAll_2 _ _ _ _ _ b t).trans ?_
    refine (Cert.RCodes.codes5_int _ _ 65536 _ b t Cert.RCodes.tab2 (fun i => n ⟨10 + i.val, by omega⟩)
      (fun i => (qk_3 m c b t i).symm.trans (hn _)) (fun i => hb _)).trans ?_
    refine Eq.trans ?_ (kernel_int m c 2 b t n hn (by rw [s2, e]; omega) (by rw [s2, e]; omega)).symm
    rw [s2, e]
    simp [Fin.sum_univ_succ]
    congr 1
    ring
  · have e : (base 3 : ℤ) = 82361 := rfl
    refine (Cert.RCodes.codesAll_3 _ _ _ _ _ b t).trans ?_
    refine (Cert.RCodes.codes7_int _ _ 81161 _ b t Cert.RCodes.tab3 (fun i => n ⟨16 + i.val, by omega⟩)
      (fun i => (qk_4 m c b t i).symm.trans (hn _)) (fun i => hb _)).trans ?_
    refine Eq.trans ?_ (kernel_int m c 3 b t n hn (by rw [s3, e]; omega) (by rw [s3, e]; omega)).symm
    rw [s3, e]
    simp [Fin.sum_univ_succ]
    congr 1
    ring

end Cert.Equation

end
-- ==== Proof.ROut.lean ====
module

public import proofs.«01_k».proof.Proof.Latent
public import proofs.«01_k».proof.ReferenceIdeal
public import proofs.«01_k».proof.Proof.Gen.ReferenceIdeal
public import proofs.«01_k».proof.Proof.Gen.ReferenceIdeal.Run

@[expose] public section

set_option maxRecDepth 16384

noncomputable section

namespace Cert.ROut

open Cert.ReferenceIdeal Cert.ReferenceIdeal.Gen Cert.ReferenceIdeal.Value Idealize.ShloMosaic Idealize.ShloMosaic.TcCoe Idealize.SL.Sem
open Cert.Latent

variable (m : (ℓ : Loc nD τ sig) → Buf (Elt Ideal) ℓ)

set_option maxHeartbeats 2000000 in
/-- The reference's decoded output at batch `b`, time `t`, feature `f`: the decoder on the quantised projections. -/
theorem out_apply (c : Dev nD) (b : Fin 16) (t : Fin 2048) (f : Fin 205) :
    res_main_v84 m c (ix3 b t f)
      = decode (fun i => lat ((3.5 : ℝ) : EReal) (zExp (m ((c.tc : Thread nD τ).loc main_arg0)) (m ((c.tc : Thread nD τ).loc main_arg1)) b t i))
          (fun i => lat ((3.5 : ℝ) : EReal) (zExp (m ((c.tc : Thread nD τ).loc main_arg0)) (m ((c.tc : Thread nD τ).loc main_arg2)) b t i))
          (fun i => lat ((2 : ℝ) : EReal) (zRest (m ((c.tc : Thread nD τ).loc main_arg0)) (m ((c.tc : Thread nD τ).loc main_arg3)) b t i))
          (fun i => lat ((3 : ℝ) : EReal) (zRot (m ((c.tc : Thread nD τ).loc main_arg0)) (m ((c.tc : Thread nD τ).loc main_arg4)) b t i))
          (m ((c.tc : Thread nD τ).loc main_arg5)) (m ((c.tc : Thread nD τ).loc main_arg6)) (m ((c.tc : Thread nD τ).loc main_arg7))
          (m ((c.tc : Thread nD τ).loc main_arg8)) f := by
  pointwise [res_main_v84]
  simp only [lit_3_5, lit_2, lit_3, straight_through]
  unfold decode zExp zRest zRot
  rcases (by omega : f.val < 9 ∨ (9 ≤ f.val ∧ f.val < 12) ∨ (12 ≤ f.val ∧ f.val < 60) ∨ (60 ≤ f.val ∧ f.val < 75) ∨ (75 ≤ f.val ∧ f.val < 138)
      ∨ f.val = 138 ∨ (139 ≤ f.val ∧ f.val < 142) ∨ 142 ≤ f.val) with h | h | h | h | h | h | h | h <;>
    simp (disch := omega) only [dif_pos, dif_neg]
  all_goals exact sum_at _ _ (by dsimp only <;> omega)

end Cert.ROut

end
-- ==== Proof.Results.lean ====
module

public import proofs.«01_k».proof.Proof.Pre
public import proofs.«01_k».proof.Proof.Equation
public import proofs.«01_k».proof.Proof.ROut

@[expose] public section

set_option maxRecDepth 16384

noncomputable section

namespace Cert.Results

open Idealize.ShloMosaic Idealize.ShloMosaic.TcCoe Idealize.SL.Sem
open Cert.KernelIdeal Cert.KernelIdeal.Gen Cert.Latent Cert.KArr Cert.KVal

variable (m : (ℓ : Loc nD τ sig) → Buf (Elt Ideal) ℓ)

/-- The kernel's first result on device `c`: its decoded array, features last. -/
def outOf (c : Dev nD) : FVec Ideal S16x2048x205 .f32 :=
  transpose S16x2048x205 [1, 2, 0] (shapeCast S205x16x2048 (G12 m c) shapeCasts_S3280x2048_S205x16x2048) transposes_S205x16x2048_S16x2048x205_1_2_0

/-- The kernel's second result on device `c`: its codes, heads first. -/
def codesOf (c : Dev nD) : IVec S4x16x2048 32 := shapeCast S4x16x2048 (G13 m c) shapeCasts_S64x2048_S4x16x2048

/-- The kernel's first result at batch `b`, time `t`, feature `f` is the decoded array's row `16 f + b` at `t`. -/
theorem outOf_apply (c : Dev nD) (b : Fin 16) (t : Fin 2048) (f : Fin 205) :
    outOf m c (ix3 b t f) = G12 m c (ix2 (⟨f.val * 16 + b.val, by omega⟩ : Fin 3280) t) := by
  pointwise [outOf]

/-- The kernel's code of head `h` at batch `b`, time `t` is the code array's row `16 h + b` at `t`. -/
theorem codesOf_apply (c : Dev nD) (h : Fin 4) (b : Fin 16) (t : Fin 2048) :
    codesOf m c (ix3 h b t) = G13 m c (ix2 (⟨h.val * 16 + b.val, by omega⟩ : Fin 64) t) := by
  pointwise [codesOf]

/-- The first result: from equal arguments the reference's decoded output is the kernel's, at every index and for all inputs. -/
theorem out_eq (m' : (ℓ : Loc Cert.ReferenceIdeal.nD Cert.ReferenceIdeal.τ Cert.ReferenceIdeal.sig) → Buf (Elt Ideal) ℓ) (c : Dev nD)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5))
    (a6 : m' ((c.tc : Thread Cert.ReferenceIdeal.nD Cert.ReferenceIdeal.τ).loc Cert.ReferenceIdeal.main_arg6) = m ((c.tc : Thread nD τ).loc main_arg6))
    (a7 : m' ((c.tc : Thread Cert.ReferenceIdeal.nD Cert.ReferenceIdeal.τ).loc Cert.ReferenceIdeal.main_arg7) = m ((c.tc : Thread nD τ).loc main_arg7))
    (a8 : m' ((c.tc : Thread Cert.ReferenceIdeal.nD Cert.ReferenceIdeal.τ).loc Cert.ReferenceIdeal.main_arg8) = m ((c.tc : Thread nD τ).loc main_arg8)) :
    Cert.ReferenceIdeal.Value.res_main_v84 m' c = outOf m c := by
  funext j
  idx_vars j
  refine (Cert.ROut.out_apply m' c j0 j1 j2).trans ?_
  refine Eq.trans ?_ ((outOf_apply m c j0 j1 j2).trans (G12_apply m c j0 j1 j2)).symm
  rw [a0, a1, a2, a3, a4, a5, a6, a7, a8]
  have e1 := funext fun i => qk_1 m c j0 j1 i
  have e2 := funext fun i => qk_2 m c j0 j1 i
  have e3 := funext fun i => qk_3 m c j0 j1 i
  have e4 := funext fun i => qk_4 m c j0 j1 i
  rw [e1, e2, e3, e4]

/-- The second result: where the precondition holds, the reference's codes of the kernel's arguments are the kernel's. -/
theorem codes_eq (c : Dev nD)
    (hp : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1)) :
    Cert.RCodes.codesAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) = codesOf m c := by
  obtain ⟨hx, h1, h2⟩ := Cert.Pre_finite.finite_read _ _ _ _ _ _ _ _ _ hp
  funext j
  idx_vars j
  refine (Cert.Equation.codes_eq m c j0 j1 j2 (fun i => ?_) (fun i => ?_)).trans (codesOf_apply m c j0 j1 j2).symm
  · exact zExp_finite _ _ j1 j2 i (fun f => hx j1 j2 f) (fun f => h1 f i)
  · exact zExp_finite _ _ j1 j2 i (fun f => hx j1 j2 f) (fun f => h2 f i)

end Cert.Results

end
-- ==== Proof.lean ====
/- The certificate: the frames of the kernel and of the reference, and the equality of their results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import Idealize.ShloMosaic.Adequacy
public import Idealize.ShloMosaic.Init

@[expose] public section

noncomputable section

namespace Cert.Proof

open Idealize.ShloMosaic Idealize.SL.Sem

/-- The kernel's frame: it runs, its arguments end unchanged and every semaphore ends at zero. -/
theorem frame_Kernel : quiescent_Kernel := fun m ρ _ => Cert.Kernel.Gen.frame m ρ

/-- The frame of the kernel read over the extended reals. -/
theorem frame_KernelIdeal : quiescent_KernelIdeal := fun m ρ _ => Cert.KernelIdeal.Gen.frame m ρ

/-- The same frame, from the memories of the precondition. -/
theorem frame_KernelIdeal_finite : quiescent_KernelIdeal_pre_finite := fun m ρ _ => Cert.KernelIdeal.Gen.frame m ρ

/-- The reference's frame. -/
theorem frame_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The same frame, from the memories of the precondition. -/
theorem frame_ReferenceIdeal_finite : quiescent_ReferenceIdeal_pre_finite := fun m ρ _ => frame_ReferenceIdeal m ρ trivial

/-- The kernel and the reference, from equal arguments that satisfy the precondition, end with equal decoded outputs and equal codes. -/
theorem values : algebraic_KernelIdeal_ReferenceIdeal_pre_finite := by
  intro m g m' g' hp ha
  refine ⟨fun c => Cert.Results.outOf m c, fun c => Cert.Results.codesOf m c, ?_, ?_⟩
  · exact (θ_run Cert.KernelIdeal.defs _ _).mono (fun r h c => ⟨(h.1 c).1, (h.1 c).2, h.2 c⟩)
      (θ_run_and (Cert.KArr.run_results m g) (Cert.KernelIdeal.Gen.unchanged m g))
  · refine (θ_run Cert.ReferenceIdeal.defs _ _).mono (fun r h c => ?_) (Cert.ReferenceIdeal.Value.run m' g')
    obtain ⟨a0, a1, a2, a3, a4, a5, a6, a7, a8⟩ := ha c
    refine ⟨(h c).1.trans (Cert.Results.out_eq m m' c a0 a1 a2 a3 a4 a5 a6 a7 a8), ?_, (h c).2.2⟩
    have e : r.2.mem ((c.tc : Thread Cert.ReferenceIdeal.nD Cert.ReferenceIdeal.τ).loc Cert.ReferenceIdeal.main_v72)
        = Cert.RCodes.codesAll (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := (h c).2.1
    rw [a0, a1, a2, a3, a4] at e
    exact e.trans (Cert.Results.codes_eq m c (hp c))

/-- The certificate's claim. -/
theorem claim : Cert.Claim :=
  ⟨Cert.Kernel.Gen.facts, Cert.KernelIdeal.Gen.facts, Cert.ReferenceIdeal.Gen.facts, Cert.Pre_finite.facts,
    frame_Kernel, frame_KernelIdeal, frame_KernelIdeal_finite, frame_ReferenceIdeal, frame_ReferenceIdeal_finite, trivial, values⟩

end Cert.Proof

end
